-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v148_0)) (v1 : (c : Dev Cert.KernelIdeal.nD) → Buf (Elt Ideal) ((c.tc : Thread Cert.KernelIdeal.nD Cert.KernelIdeal.τ).loc Cert.KernelIdeal.main_v148_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148_0) = v0 c
          ∧ r.2.mem ((c.tc : Thread Cert.KernelIdeal.nD Cert.KernelIdeal.τ).loc Cert.KernelIdeal.main_v148_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S16x196x128 : Shape := ⟨3, ![16, 196, 128]⟩
abbrev S_ : Shape := ⟨0, ![]⟩

class Facts : Prop where
  bcast_S_S16x196x128 : S_.BroadcastsInDim S16x196x128 (![] : Fin 0 → Fin S16x196x128.rank)
  reducesTo_S16x196x128_S_d0_1_2 : S16x196x128.ReducesTo [0, 1, 2] S_
  h_S_ : 0 < S_.numel

variable [Facts]

def fn {F : FTy → Type} [FloatOps F] (main_arg0 : FVec F S16x196x128 .f32) (main_arg1 : FVec F S16x196x128 .f32) : IVec S_ 1 :=
  let main_cst : FVec F S_ .f32 := constant S_ .f32 0x00000000#32
  let main_v0 : FVec F S16x196x128 .f32 := broadcastInDim S16x196x128 ![] bcast_S_S16x196x128 main_cst
  let main_v1 : IVec S16x196x128 1 := cmpf .ogt main_arg0 main_v0
  let main_cst_0 : FVec F S_ .f32 := constant S_ .f32 0x7F800000#32
  let main_v2 : FVec F S16x196x128 .f32 := broadcastInDim S16x196x128 ![] bcast_S_S16x196x128 main_cst_0
  let main_v3 : IVec S16x196x128 1 := cmpf .olt main_arg0 main_v2
  let main_v4 : IVec S16x196x128 1 := andi main_v1 main_v3
  let main_cst_1 : FVec F S_ .f32 := constant S_ .f32 0x00000000#32
  let main_v5 : FVec F S16x196x128 .f32 := broadcastInDim S16x196x128 ![] bcast_S_S16x196x128 main_cst_1
  let main_v6 : IVec S16x196x128 1 := cmpf .ogt main_arg1 main_v5
  let main_v7 : IVec S16x196x128 1 := andi main_v4 main_v6
  let main_cst_2 : FVec F S_ .f32 := constant S_ .f32 0x7F800000#32
  let main_v8 : FVec F S16x196x128 .f32 := broadcastInDim S16x196x128 ![] bcast_S_S16x196x128 main_cst_2
  let main_v9 : IVec S16x196x128 1 := cmpf .olt main_arg1 main_v8
  let main_v10 : IVec S16x196x128 1 := andi main_v7 main_v9
  let main_c : IVec S_ 1 := constantI S_ 1 1#1
  let main_v11 : IVec S_ 1 := (fun x v => Host.reduce IntOp.andi x v reducesTo_S16x196x128_S_d0_1_2 h_S_) main_v10 main_c
  main_v11
-- ==== Kernel.lean ====
abbrev S16x196x128 : Shape := ⟨3, ![16, 196, 128]⟩
abbrev S_ : Shape := ⟨0, ![]⟩
abbrev S128x128 : Shape := ⟨2, ![128, 128]⟩
abbrev S392x392 : Shape := ⟨2, ![392, 392]⟩
abbrev S448x392 : Shape := ⟨2, ![448, 392]⟩
abbrev S7168x128 : Shape := ⟨2, ![7168, 128]⟩
abbrev S392x512 : Shape := ⟨2, ![392, 512]⟩
abbrev S2x196x128 : Shape := ⟨3, ![2, 196, 128]⟩
abbrev S1x196x1 : Shape := ⟨3, ![1, 196, 1]⟩
abbrev S1x196x128 : Shape := ⟨3, ![1, 196, 128]⟩
abbrev S2x196 : Shape := ⟨2, ![2, 196]⟩
abbrev S2x196x1 : Shape := ⟨3, ![2, 196, 1]⟩
abbrev S392x128 : Shape := ⟨2, ![392, 128]⟩
abbrev S448x128 : Shape := ⟨2, ![448, 128]⟩
abbrev S1x128 : Shape := ⟨2, ![1, 128]⟩
abbrev S448x64 : Shape := ⟨2, ![448, 64]⟩
abbrev S28x1x16x128 : Shape := ⟨4, ![28, 1, 16, 128]⟩
abbrev S28x16x1x128 : Shape := ⟨4, ![28, 16, 1, 128]⟩
abbrev S28x16x16x128 : Shape := ⟨4, ![28, 16, 16, 128]⟩
abbrev S28x256x128 : Shape := ⟨3, ![28, 256, 128]⟩
abbrev S1x256x128 : Shape := ⟨3, ![1, 256, 128]⟩
abbrev S256x128 : Shape := ⟨2, ![256, 128]⟩
abbrev S512x128 : Shape := ⟨2, ![512, 128]⟩

abbrev nBuf : Space → Nat
  | .hbm => 221
  | .vmem => 15
  | .smem => 0
  | _ => 0

abbrev hbmTy0_0 (i : Nat) : BufTy := match i % 128 with
  | 0 => ⟨S16x196x128, .f32⟩
  | 1 => ⟨S16x196x128, .f32⟩
  | 2 => ⟨S_, .f32⟩
  | 3 => ⟨S_, .f32⟩
  | 4 => ⟨S_, .f32⟩
  | 5 => ⟨S_, .f32⟩
  | 6 => ⟨S128x128, .i32⟩
  | 7 => ⟨S128x128, .i32⟩
  | 8 => ⟨S_, .i32⟩
  | 9 => ⟨S128x128, .i32⟩
  | 10 => ⟨S128x128, .i1⟩
  | 11 => ⟨S_, .i32⟩
  | 12 => ⟨S128x128, .i32⟩
  | 13 => ⟨S128x128, .i32⟩
  | 14 => ⟨S128x128, .i32⟩
  | 15 => ⟨S128x128, .i32⟩
  | 16 => ⟨S_, .i32⟩
  | 17 => ⟨S128x128, .i32⟩
  | 18 => ⟨S128x128, .i32⟩
  | 19 => ⟨S128x128, .f32⟩
  | 20 => ⟨S128x128, .f32⟩
  | 21 => ⟨S128x128, .f32⟩
  | 22 => ⟨S_, .i32⟩
  | 23 => ⟨S128x128, .i32⟩
  | 24 => ⟨S128x128, .i1⟩
  | 25 => ⟨S128x128, .f32⟩
  | 26 => ⟨S128x128, .f32⟩
  | 27 => ⟨S128x128, .f32⟩
  | 28 => ⟨S128x128, .f32⟩
  | 29 => ⟨S128x128, .i32⟩
  | 30 => ⟨S128x128, .i32⟩
  | 31 => ⟨S_, .i32⟩
  | 32 => ⟨S128x128, .i32⟩
  | 33 => ⟨S128x128, .i1⟩
  | 34 => ⟨S_, .i32⟩
  | 35 => ⟨S128x128, .i32⟩
  | 36 => ⟨S128x128, .i32⟩
  | 37 => ⟨S128x128, .i32⟩
  | 38 => ⟨S128x128, .i32⟩
  | 39 => ⟨S_, .i32⟩
  | 40 => ⟨S128x128, .i32⟩
  | 41 => ⟨S128x128, .i32⟩
  | 42 => ⟨S128x128, .f32⟩
  | 43 => ⟨S128x128, .f32⟩
  | 44 => ⟨S128x128, .f32⟩
  | 45 => ⟨S_, .i32⟩
  | 46 => ⟨S128x128, .i32⟩
  | 47 => ⟨S128x128, .i1⟩
  | 48 => ⟨S_, .i32⟩
  | 49 => ⟨S128x128, .i32⟩
  | 50 => ⟨S128x128, .i1⟩
  | 51 => ⟨S128x128, .i1⟩
  | 52 => ⟨S_, .f32⟩
  | 53 => ⟨S_, .f32⟩
  | 54 => ⟨S128x128, .f32⟩
  | 55 => ⟨S128x128, .f32⟩
  | 56 => ⟨S128x128, .f32⟩
  | 57 => ⟨S_, .i32⟩
  | 58 => ⟨S128x128, .i32⟩
  | 59 => ⟨S128x128, .i1⟩
  | 60 => ⟨S128x128, .f32⟩
  | 61 => ⟨S128x128, .f32⟩
  | 62 => ⟨S128x128, .f32⟩
  | 63 => ⟨S_, .f32⟩
  | 64 => ⟨S128x128, .f32⟩
  | 65 => ⟨S128x128, .f32⟩
  | 66 => ⟨S128x128, .f32⟩
  | 67 => ⟨S392x392, .i32⟩
  | 68 => ⟨S392x392, .i32⟩
  | 69 => ⟨S_, .i32⟩
  | 70 => ⟨S392x392, .i32⟩
  | 71 => ⟨S392x392, .i32⟩
  | 72 => ⟨S_, .i32⟩
  | 73 => ⟨S392x392, .i32⟩
  | 74 => ⟨S392x392, .i32⟩
  | 75 => ⟨S392x392, .i1⟩
  | 76 => ⟨S_, .i32⟩
  | 77 => ⟨S392x392, .i32⟩
  | 78 => ⟨S392x392, .i32⟩
  | 79 => ⟨S_, .i32⟩
  | 80 => ⟨S392x392, .i32⟩
  | 81 => ⟨S392x392, .i32⟩
  | 82 => ⟨S_, .i32⟩
  | 83 => ⟨S392x392, .i32⟩
  | 84 => ⟨S392x392, .i32⟩
  | 85 => ⟨S392x392, .i1⟩
  | 86 => ⟨S392x392, .i1⟩
  | 87 => ⟨S_, .i32⟩
  | 88 => ⟨S392x392, .i32⟩
  | 89 => ⟨S392x392, .i32⟩
  | 90 => ⟨S_, .i32⟩
  | 91 => ⟨S392x392, .i32⟩
  | 92 => ⟨S392x392, .i32⟩
  | 93 => ⟨S_, .i32⟩
  | 94 => ⟨S392x392, .i32⟩
  | 95 => ⟨S392x392, .i32⟩
  | 96 => ⟨S392x392, .i1⟩
  | 97 => ⟨S392x392, .i1⟩
  | 98 => ⟨S_, .f32⟩
  | 99 => ⟨S_, .f32⟩
  | 100 => ⟨S392x392, .f32⟩
  | 101 => ⟨S392x392, .f32⟩
  | 102 => ⟨S392x392, .f32⟩
  | 103 => ⟨S128x128, .i32⟩
  | 104 => ⟨S128x128, .i32⟩
  | 105 => ⟨S128x128, .i32⟩
  | 106 => ⟨S_, .i32⟩
  | 107 => ⟨S128x128, .i32⟩
  | 108 => ⟨S128x128, .i32⟩
  | 109 => ⟨S_, .i32⟩
  | 110 => ⟨S128x128, .i32⟩
  | 111 => ⟨S128x128, .i1⟩
  | 112 => ⟨S_, .f32⟩
  | 113 => ⟨S_, .f32⟩
  | 114 => ⟨S128x128, .f32⟩
  | 115 => ⟨S128x128, .f32⟩
  | 116 => ⟨S128x128, .f32⟩
  | 117 => ⟨S448x392, .i32⟩
  | 118 => ⟨S448x392, .i32⟩
  | 119 => ⟨S_, .i32⟩
  | 120 => ⟨S448x392, .i32⟩
  | 121 => ⟨S448x392, .i32⟩
  | 122 => ⟨S_, .i32⟩
  | 123 => ⟨S448x392, .i32⟩
  | 124 => ⟨S448x392, .i32⟩
  | 125 => ⟨S448x392, .i1⟩
  | 126 => ⟨S_, .i32⟩
  | 127 => ⟨S448x392, .i32⟩
  | _ => ⟨S16x196x128, .f32⟩

abbrev hbmTy0_1 (i : Nat) : BufTy := match i % 128 with
  | 0 => ⟨S448x392, .i32⟩
  | 1 => ⟨S_, .i32⟩
  | 2 => ⟨S448x392, .i32⟩
  | 3 => ⟨S448x392, .i32⟩
  | 4 => ⟨S448x392, .i1⟩
  | 5 => ⟨S448x392, .i1⟩
  | 6 => ⟨S_, .i32⟩
  | 7 => ⟨S448x392, .i32⟩
  | 8 => ⟨S448x392, .i32⟩
  | 9 => ⟨S_, .i32⟩
  | 10 => ⟨S448x392, .i32⟩
  | 11 => ⟨S448x392, .i32⟩
  | 12 => ⟨S_, .i32⟩
  | 13 => ⟨S448x392, .i32⟩
  | 14 => ⟨S448x392, .i32⟩
  | 15 => ⟨S448x392, .i1⟩
  | 16 => ⟨S448x392, .i1⟩
  | 17 => ⟨S_, .f32⟩
  | 18 => ⟨S_, .f32⟩
  | 19 => ⟨S448x392, .f32⟩
  | 20 => ⟨S448x392, .f32⟩
  | 21 => ⟨S448x392, .f32⟩
  | 22 => ⟨S7168x128, .i32⟩
  | 23 => ⟨S7168x128, .i32⟩
  | 24 => ⟨S_, .i32⟩
  | 25 => ⟨S7168x128, .i32⟩
  | 26 => ⟨S7168x128, .i32⟩
  | 27 => ⟨S_, .i32⟩
  | 28 => ⟨S7168x128, .i32⟩
  | 29 => ⟨S7168x128, .i32⟩
  | 30 => ⟨S_, .i32⟩
  | 31 => ⟨S7168x128, .i32⟩
  | 32 => ⟨S7168x128, .i32⟩
  | 33 => ⟨S_, .i32⟩
  | 34 => ⟨S7168x128, .i32⟩
  | 35 => ⟨S7168x128, .i32⟩
  | 36 => ⟨S_, .i32⟩
  | 37 => ⟨S7168x128, .i32⟩
  | 38 => ⟨S7168x128, .i32⟩
  | 39 => ⟨S7168x128, .i1⟩
  | 40 => ⟨S7168x128, .i1⟩
  | 41 => ⟨S7168x128, .i1⟩
  | 42 => ⟨S_, .i32⟩
  | 43 => ⟨S7168x128, .i32⟩
  | 44 => ⟨S7168x128, .i1⟩
  | 45 => ⟨S7168x128, .i1⟩
  | 46 => ⟨S_, .i32⟩
  | 47 => ⟨S7168x128, .i32⟩
  | 48 => ⟨S7168x128, .i1⟩
  | 49 => ⟨S7168x128, .i1⟩
  | 50 => ⟨S_, .f32⟩
  | 51 => ⟨S_, .f32⟩
  | 52 => ⟨S7168x128, .f32⟩
  | 53 => ⟨S7168x128, .f32⟩
  | 54 => ⟨S7168x128, .f32⟩
  | 55 => ⟨S392x512, .i32⟩
  | 56 => ⟨S392x512, .i32⟩
  | 57 => ⟨S_, .i32⟩
  | 58 => ⟨S392x512, .i32⟩
  | 59 => ⟨S392x512, .i32⟩
  | 60 => ⟨S_, .i32⟩
  | 61 => ⟨S392x512, .i32⟩
  | 62 => ⟨S392x512, .i32⟩
  | 63 => ⟨S392x512, .i1⟩
  | 64 => ⟨S_, .i32⟩
  | 65 => ⟨S392x512, .i32⟩
  | 66 => ⟨S392x512, .i32⟩
  | 67 => ⟨S_, .i32⟩
  | 68 => ⟨S392x512, .i32⟩
  | 69 => ⟨S392x512, .i32⟩
  | 70 => ⟨S_, .i32⟩
  | 71 => ⟨S392x512, .i32⟩
  | 72 => ⟨S392x512, .i32⟩
  | 73 => ⟨S_, .i32⟩
  | 74 => ⟨S392x512, .i32⟩
  | 75 => ⟨S392x512, .i32⟩
  | 76 => ⟨S392x512, .i1⟩
  | 77 => ⟨S392x512, .i1⟩
  | 78 => ⟨S_, .i32⟩
  | 79 => ⟨S392x512, .i32⟩
  | 80 => ⟨S392x512, .i32⟩
  | 81 => ⟨S_, .i32⟩
  | 82 => ⟨S392x512, .i32⟩
  | 83 => ⟨S392x512, .i32⟩
  | 84 => ⟨S392x512, .i1⟩
  | 85 => ⟨S392x512, .i1⟩
  | 86 => ⟨S_, .f32⟩
  | 87 => ⟨S_, .f32⟩
  | 88 => ⟨S392x512, .f32⟩
  | 89 => ⟨S392x512, .f32⟩
  | 90 => ⟨S392x512, .f32⟩
  | 91 => ⟨S16x196x128, .f32⟩
  | 92 => ⟨S16x196x128, .f32⟩
  | _ => ⟨S16x196x128, .f32⟩

abbrev hbmTy (i : Nat) : BufTy := match i / 128 with
  | 0 => hbmTy0_0 i
  | 1 => hbmTy0_1 i
  | _ => ⟨S16x196x128, .f32⟩

abbrev bufTy : (tb : Table) → Fin (tcTables nBuf tb) → BufTy
  | .hbm, ⟨i, _⟩ => hbmTy i
  | .local _ .vmem, ⟨0, _⟩ => ⟨S2x196x128, .f32⟩
  | .local _ .vmem, ⟨1, _⟩ => ⟨S2x196x128, .f32⟩
  | .local _ .vmem, ⟨2, _⟩ => ⟨S2x196x128, .f32⟩
  | .local _ .vmem, ⟨3, _⟩ => ⟨S2x196x128, .f32⟩
  | .local _ .vmem, ⟨4, _⟩ => ⟨S128x128, .f32⟩
  | .local _ .vmem, ⟨5, _⟩ => ⟨S128x128, .f32⟩
  | .local _ .vmem, ⟨6, _⟩ => ⟨S392x392, .f32⟩
  | .local _ .vmem, ⟨7, _⟩ => ⟨S128x128, .f32⟩
  | .local _ .vmem, ⟨8, _⟩ => ⟨S448x392, .f32⟩
  | .local _ .vmem, ⟨9, _⟩ => ⟨S392x512, .f32⟩
  | .local _ .vmem, ⟨10, _⟩ => ⟨S7168x128, .f32⟩
  | .local _ .vmem, ⟨11, _⟩ => ⟨S2x196x128, .f32⟩
  | .local _ .vmem, ⟨12, _⟩ => ⟨S2x196x128, .f32⟩
  | .local _ .vmem, ⟨13, _⟩ => ⟨S2x196x128, .f32⟩
  | .local _ .vmem, ⟨14, _⟩ => ⟨S2x196x128, .f32⟩
  | _, _ => ⟨S16x196x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_7 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_cst_10 : Ref sig .tc := ⟨.hbm, 53, rfl⟩
abbrev main_call3_v0 : Ref sig .tc := ⟨.hbm, 54, rfl⟩
abbrev main_call3_v1 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_15 : Ref sig .tc := ⟨.hbm, 76, rfl⟩
abbrev main_v55 : Ref sig .tc := ⟨.hbm, 77, rfl⟩
abbrev main_v56 : Ref sig .tc := ⟨.hbm, 78, rfl⟩
abbrev main_c_16 : Ref sig .tc := ⟨.hbm, 79, rfl⟩
abbrev main_v57 : Ref sig .tc := ⟨.hbm, 80, rfl⟩
abbrev main_v58 : Ref sig .tc := ⟨.hbm, 81, rfl⟩
abbrev main_c_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_18 : Ref sig .tc := ⟨.hbm, 87, rfl⟩
abbrev main_v63 : Ref sig .tc := ⟨.hbm, 88, rfl⟩
abbrev main_v64 : Ref sig .tc := ⟨.hbm, 89, rfl⟩
abbrev main_c_19 : Ref sig .tc := ⟨.hbm, 90, rfl⟩
abbrev main_v65 : Ref sig .tc := ⟨.hbm, 91, rfl⟩
abbrev main_v66 : Ref sig .tc := ⟨.hbm, 92, rfl⟩
abbrev main_c_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_21 : Ref sig .tc := ⟨.hbm, 98, rfl⟩
abbrev main_cst_22 : Ref sig .tc := ⟨.hbm, 99, rfl⟩
abbrev main_call5_v0 : Ref sig .tc := ⟨.hbm, 100, rfl⟩
abbrev main_call5_v1 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_23 : Ref sig .tc := ⟨.hbm, 106, rfl⟩
abbrev main_v75 : Ref sig .tc := ⟨.hbm, 107, rfl⟩
abbrev main_v76 : Ref sig .tc := ⟨.hbm, 108, rfl⟩
abbrev main_c_24 : Ref sig .tc := ⟨.hbm, 109, rfl⟩
abbrev main_v77 : Ref sig .tc := ⟨.hbm, 110, rfl⟩
abbrev main_v78 : Ref sig .tc := ⟨.hbm, 111, rfl⟩
abbrev main_cst_25 : Ref sig .tc := ⟨.hbm, 112, rfl⟩
abbrev main_cst_26 : Ref sig .tc := ⟨.hbm, 113, rfl⟩
abbrev main_call6_v0 : Ref sig .tc := ⟨.hbm, 114, rfl⟩
abbrev main_call6_v1 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_27 : Ref sig .tc := ⟨.hbm, 119, rfl⟩
abbrev main_v82 : Ref sig .tc := ⟨.hbm, 120, rfl⟩
abbrev main_v83 : Ref sig .tc := ⟨.hbm, 121, rfl⟩
abbrev main_c_28 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_29 : Ref sig .tc := ⟨.hbm, 126, rfl⟩
abbrev main_v87 : Ref sig .tc := ⟨.hbm, 127, rfl⟩
abbrev main_v88 : Ref sig .tc := ⟨.hbm, 128, rfl⟩
abbrev main_c_30 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_31 : Ref sig .tc := ⟨.hbm, 134, rfl⟩
abbrev main_v93 : Ref sig .tc := ⟨.hbm, 135, rfl⟩
abbrev main_v94 : Ref sig .tc := ⟨.hbm, 136, rfl⟩
abbrev main_c_32 : Ref sig .tc := ⟨.hbm, 137, rfl⟩
abbrev main_v95 : Ref sig .tc := ⟨.hbm, 138, rfl⟩
abbrev main_v96 : Ref sig .tc := ⟨.hbm, 139, rfl⟩
abbrev main_c_33 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_34 : Ref sig .tc := ⟨.hbm, 145, rfl⟩
abbrev main_cst_35 : Ref sig .tc := ⟨.hbm, 146, rfl⟩
abbrev main_call7_v0 : Ref sig .tc := ⟨.hbm, 147, rfl⟩
abbrev main_call7_v1 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_36 : Ref sig .tc := ⟨.hbm, 152, rfl⟩
abbrev main_v104 : Ref sig .tc := ⟨.hbm, 153, rfl⟩
abbrev main_v105 : Ref sig .tc := ⟨.hbm, 154, rfl⟩
abbrev main_c_37 : Ref sig .tc := ⟨.hbm, 155, rfl⟩
abbrev main_v106 : Ref sig .tc := ⟨.hbm, 156, rfl⟩
abbrev main_v107 : Ref sig .tc := ⟨.hbm, 157, rfl⟩
abbrev main_c_38 : Ref sig .tc := ⟨.hbm, 158, rfl⟩
abbrev main_v108 : Ref sig .tc := ⟨.hbm, 159, rfl⟩
abbrev main_v109 : Ref sig .tc := ⟨.hbm, 160, rfl⟩
abbrev main_c_39 : Ref sig .tc := ⟨.hbm, 161, rfl⟩
abbrev main_v110 : Ref sig .tc := ⟨.hbm, 162, rfl⟩
abbrev main_v111 : Ref sig .tc := ⟨.hbm, 163, rfl⟩
abbrev main_c_40 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_41 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_42 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_43 : Ref sig .tc := ⟨.hbm, 178, rfl⟩
abbrev main_cst_44 : Ref sig .tc := ⟨.hbm, 179, rfl⟩
abbrev main_call8_v0 : Ref sig .tc := ⟨.hbm, 180, rfl⟩
abbrev main_call8_v1 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_c_45 : Ref sig .tc := ⟨.hbm, 185, rfl⟩
abbrev main_v126 : Ref sig .tc := ⟨.hbm, 186, rfl⟩
abbrev main_v127 : Ref sig .tc := ⟨.hbm, 187, rfl⟩
abbrev main_c_46 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_47 : Ref sig .tc := ⟨.hbm, 192, rfl⟩
abbrev main_v131 : Ref sig .tc := ⟨.hbm, 193, rfl⟩
abbrev main_v132 : Ref sig .tc := ⟨.hbm, 194, rfl⟩
abbrev main_c_48 : Ref sig .tc := ⟨.hbm, 195, rfl⟩
abbrev main_v133 : Ref sig .tc := ⟨.hbm, 196, rfl⟩
abbrev main_v134 : Ref sig .tc := ⟨.hbm, 197, rfl⟩
abbrev main_c_49 : Ref sig .tc := ⟨.hbm, 198, rfl⟩
abbrev main_v135 : Ref sig .tc := ⟨.hbm, 199, rfl⟩
abbrev main_v136 : Ref sig .tc := ⟨.hbm, 200, rfl⟩
abbrev main_c_50 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_51 : Ref sig .tc := ⟨.hbm, 206, rfl⟩
abbrev main_v141 : Ref sig .tc := ⟨.hbm, 207, rfl⟩
abbrev main_v142 : Ref sig .tc := ⟨.hbm, 208, rfl⟩
abbrev main_c_52 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_cst_53 : Ref sig .tc := ⟨.hbm, 214, rfl⟩
abbrev main_cst_54 : Ref sig .tc := ⟨.hbm, 215, rfl⟩
abbrev main_call9_v0 : Ref sig .tc := ⟨.hbm, 216, rfl⟩
abbrev main_call9_v1 : Ref sig .tc := ⟨.hbm, 217, rfl⟩
abbrev main_v147 : Ref sig .tc := ⟨.hbm, 218, rfl⟩
abbrev main_v148_0 : Ref sig .tc := ⟨.hbm, 219, rfl⟩
abbrev main_v148_1 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x196x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x196x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S392x392 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S448x392 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S392x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7168x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x196x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x196x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x196x128 : Shape := ⟨3, ![16, 196, 128]⟩
abbrev S28x1 : Shape := ⟨2, ![28, 1]⟩
abbrev S14x14 : Shape := ⟨2, ![14, 14]⟩
abbrev S_ : Shape := ⟨0, ![]⟩
abbrev S1x196x1 : Shape := ⟨3, ![1, 196, 1]⟩
abbrev S128 : Shape := ⟨1, ![128]⟩
abbrev S16x196 : Shape := ⟨2, ![16, 196]⟩
abbrev S16x196x1 : Shape := ⟨3, ![16, 196, 1]⟩
abbrev S28 : Shape := ⟨1, ![28]⟩
abbrev S1 : Shape := ⟨1, ![1]⟩
abbrev S1x1 : Shape := ⟨2, ![1, 1]⟩
abbrev S16x28x128 : Shape := ⟨3, ![16, 28, 128]⟩
abbrev S16x28x1x128 : Shape := ⟨4, ![16, 28, 1, 128]⟩
abbrev S16x28x1x1x128 : Shape := ⟨5, ![16, 28, 1, 1, 128]⟩
abbrev S16x14x14x128 : Shape := ⟨4, ![16, 14, 14, 128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S16x14x14x128x128 : Shape := ⟨5, ![16, 14, 14, 128, 128]⟩
abbrev S16x14x14x14x128 : Shape := ⟨5, ![16, 14, 14, 14, 128]⟩
abbrev S14 : Shape := ⟨1, ![14]⟩
abbrev S14x1x1 : Shape := ⟨3, ![14, 1, 1]⟩
abbrev S1x14x1 : Shape := ⟨3, ![1, 14, 1]⟩
abbrev S1x1x14 : Shape := ⟨3, ![1, 1, 14]⟩
abbrev S14x14x1 : Shape := ⟨3, ![14, 14, 1]⟩
abbrev S1x14x14 : Shape := ⟨3, ![1, 14, 14]⟩
abbrev S14x14x14 : Shape := ⟨3, ![14, 14, 14]⟩
abbrev S1x14x14x14x1 : Shape := ⟨5, ![1, 14, 14, 14, 1]⟩
abbrev S16x14x1x14x128 : Shape := ⟨5, ![16, 14, 1, 14, 128]⟩

abbrev nBuf : Space → Nat
  | .hbm => 283
  | .vmem => 0
  | .smem => 0
  | _ => 0

abbrev hbmTy0_0 (i : Nat) : BufTy := match i % 128 with
  | 0 => ⟨S16x196x128, .f32⟩
  | 1 => ⟨S16x196x128, .f32⟩
  | 2 => ⟨S28x1, .i32⟩
  | 3 => ⟨S28x1, .i32⟩
  | 4 => ⟨S14x14, .i32⟩
  | 5 => ⟨S14x14, .i32⟩
  | 6 => ⟨S_, .i32⟩
  | 7 => ⟨S14x14, .i32⟩
  | 8 => ⟨S14x14, .i32⟩
  | 9 => ⟨S14x14, .i1⟩
  | 10 => ⟨S1x196x1, .i1⟩
  | 11 => ⟨S128, .i32⟩
  | 12 => ⟨S_, .i32⟩
  | 13 => ⟨S128, .i32⟩
  | 14 => ⟨S128, .i1⟩
  | 15 => ⟨S_, .f32⟩
  | 16 => ⟨S_, .f32⟩
  | 17 => ⟨S128, .f32⟩
  | 18 => ⟨S128, .f32⟩
  | 19 => ⟨S128, .f32⟩
  | 20 => ⟨S128, .f32⟩
  | 21 => ⟨S16x196x128, .i1⟩
  | 22 => ⟨S16x196x128, .f32⟩
  | 23 => ⟨S16x196x128, .f32⟩
  | 24 => ⟨S_, .f32⟩
  | 25 => ⟨S16x196, .f32⟩
  | 26 => ⟨S16x196x1, .f32⟩
  | 27 => ⟨S16x196x128, .f32⟩
  | 28 => ⟨S16x196x128, .f32⟩
  | 29 => ⟨S16x196x128, .f32⟩
  | 30 => ⟨S_, .f32⟩
  | 31 => ⟨S16x196, .f32⟩
  | 32 => ⟨S16x196x1, .f32⟩
  | 33 => ⟨S16x196x128, .f32⟩
  | 34 => ⟨S16x196x128, .f32⟩
  | 35 => ⟨S28, .i32⟩
  | 36 => ⟨S_, .i32⟩
  | 37 => ⟨S28, .i32⟩
  | 38 => ⟨S28, .i1⟩
  | 39 => ⟨S_, .i32⟩
  | 40 => ⟨S28, .i32⟩
  | 41 => ⟨S28, .i32⟩
  | 42 => ⟨S28, .i32⟩
  | 43 => ⟨S28x1, .i32⟩
  | 44 => ⟨S1, .i32⟩
  | 45 => ⟨S_, .i32⟩
  | 46 => ⟨S28x1, .i32⟩
  | 47 => ⟨S28x1, .i1⟩
  | 48 => ⟨S1x1, .i32⟩
  | 49 => ⟨S28x1, .i32⟩
  | 50 => ⟨S28x1, .i1⟩
  | 51 => ⟨S28x1, .i1⟩
  | 52 => ⟨S_, .i1⟩
  | 53 => ⟨S28, .i1⟩
  | 54 => ⟨S16x28x128, .f32⟩
  | 55 => ⟨S16x28x128, .i1⟩
  | 56 => ⟨S_, .f32⟩
  | 57 => ⟨S16x28x128, .f32⟩
  | 58 => ⟨S16x28x128, .f32⟩
  | 59 => ⟨S16x28x1x128, .f32⟩
  | 60 => ⟨S16x28x1x128, .f32⟩
  | 61 => ⟨S16x28x128, .f32⟩
  | 62 => ⟨S16x28x1x128, .f32⟩
  | 63 => ⟨S16x28x1x1x128, .f32⟩
  | 64 => ⟨S16x28x1x128, .f32⟩
  | 65 => ⟨S28, .i32⟩
  | 66 => ⟨S16x28x128, .f32⟩
  | 67 => ⟨S_, .i32⟩
  | 68 => ⟨S28, .i32⟩
  | 69 => ⟨S28, .i1⟩
  | 70 => ⟨S_, .i32⟩
  | 71 => ⟨S28, .i32⟩
  | 72 => ⟨S28, .i32⟩
  | 73 => ⟨S28, .i32⟩
  | 74 => ⟨S28x1, .i32⟩
  | 75 => ⟨S16x196x128, .f32⟩
  | 76 => ⟨S_, .f32⟩
  | 77 => ⟨S16x196, .f32⟩
  | 78 => ⟨S16x196x1, .f32⟩
  | 79 => ⟨S16x196x128, .f32⟩
  | 80 => ⟨S16x196x128, .f32⟩
  | 81 => ⟨S16x14x14x128, .f32⟩
  | 82 => ⟨S128, .i32⟩
  | 83 => ⟨S128x1, .i32⟩
  | 84 => ⟨S128, .i32⟩
  | 85 => ⟨S1x128, .i32⟩
  | 86 => ⟨S128x128, .i32⟩
  | 87 => ⟨S128x128, .i32⟩
  | 88 => ⟨S128x128, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S128x128, .i32⟩
  | 96 => ⟨S128x128, .i32⟩
  | 97 => ⟨S_, .i32⟩
  | 98 => ⟨S128x128, .i32⟩
  | 99 => ⟨S128x128, .i1⟩
  | 100 => ⟨S_, .i32⟩
  | 101 => ⟨S128x128, .i32⟩
  | 102 => ⟨S128x128, .i1⟩
  | 103 => ⟨S_, .i32⟩
  | 104 => ⟨S_, .i1⟩
  | 105 => ⟨S128x128, .i1⟩
  | 106 => ⟨S128x128, .i1⟩
  | 107 => ⟨S128x128, .i1⟩
  | 108 => ⟨S128x128, .i32⟩
  | 109 => ⟨S128x128, .i32⟩
  | 110 => ⟨S128x128, .i32⟩
  | 111 => ⟨S_, .i32⟩
  | 112 => ⟨S128x128, .i32⟩
  | 113 => ⟨S128x128, .i1⟩
  | 114 => ⟨S_, .i32⟩
  | 115 => ⟨S128x128, .i32⟩
  | 116 => ⟨S128x128, .i32⟩
  | 117 => ⟨S128x128, .i32⟩
  | 118 => ⟨S128x128x1, .i32⟩
  | 119 => ⟨S16x14x14x128x128, .f32⟩
  | 120 => ⟨S16x14x14x14x128, .f32⟩
  | 121 => ⟨S16x14x14x14x128, .f32⟩
  | 122 => ⟨S14, .i32⟩
  | 123 => ⟨S14x1x1, .i32⟩
  | 124 => ⟨S14, .i32⟩
  | 125 => ⟨S1x14x1, .i32⟩
  | 126 => ⟨S14, .i32⟩
  | 127 => ⟨S1x1x14, .i32⟩
  | _ => ⟨S16x196x128, .f32⟩

abbrev hbmTy0_1 (i : Nat) : BufTy := match i % 128 with
  | 0 => ⟨S14x14x1, .i32⟩
  | 1 => ⟨S14x14x1, .i32⟩
  | 2 => ⟨S14x14x1, .i1⟩
  | 3 => ⟨S1x14x14, .i32⟩
  | 4 => ⟨S1x14x14, .i32⟩
  | 5 => ⟨S1x14x14, .i1⟩
  | 6 => ⟨S14x14x14, .i1⟩
  | 7 => ⟨S14x14x14, .i1⟩
  | 8 => ⟨S14x14x14, .i1⟩
  | 9 => ⟨S1x14x14x14x1, .i1⟩
  | 10 => ⟨S_, .f32⟩
  | 11 => ⟨S_, .f32⟩
  | 12 => ⟨S16x14x14x14x128, .i1⟩
  | 13 => ⟨S16x14x14x14x128, .f32⟩
  | 14 => ⟨S16x14x14x14x128, .f32⟩
  | 15 => ⟨S16x14x1x14x128, .f32⟩
  | 16 => ⟨S16x14x14x128, .f32⟩
  | 17 => ⟨S16x14x1x14x128, .f32⟩
  | 18 => ⟨S16x14x14x128, .f32⟩
  | 19 => ⟨S16x14x1x14x128, .f32⟩
  | 20 => ⟨S16x14x14x128, .f32⟩
  | 21 => ⟨S16x14x1x14x128, .f32⟩
  | 22 => ⟨S16x14x14x128, .f32⟩
  | 23 => ⟨S16x14x1x14x128, .f32⟩
  | 24 => ⟨S16x14x14x128, .f32⟩
  | 25 => ⟨S16x14x1x14x128, .f32⟩
  | 26 => ⟨S16x14x14x128, .f32⟩
  | 27 => ⟨S16x14x1x14x128, .f32⟩
  | 28 => ⟨S16x14x14x128, .f32⟩
  | 29 => ⟨S16x14x1x14x128, .f32⟩
  | 30 => ⟨S16x14x14x128, .f32⟩
  | 31 => ⟨S16x14x1x14x128, .f32⟩
  | 32 => ⟨S16x14x14x128, .f32⟩
  | 33 => ⟨S16x14x1x14x128, .f32⟩
  | 34 => ⟨S16x14x14x128, .f32⟩
  | 35 => ⟨S16x14x1x14x128, .f32⟩
  | 36 => ⟨S16x14x14x128, .f32⟩
  | 37 => ⟨S16x14x1x14x128, .f32⟩
  | 38 => ⟨S16x14x14x128, .f32⟩
  | 39 => ⟨S16x14x1x14x128, .f32⟩
  | 40 => ⟨S16x14x14x128, .f32⟩
  | 41 => ⟨S16x14x1x14x128, .f32⟩
  | 42 => ⟨S16x14x14x128, .f32⟩
  | 43 => ⟨S16x14x14x128, .f32⟩
  | 44 => ⟨S16x14x14x128, .f32⟩
  | 45 => ⟨S16x14x14x128, .f32⟩
  | 46 => ⟨S16x14x14x128, .f32⟩
  | 47 => ⟨S16x14x14x128, .f32⟩
  | 48 => ⟨S16x14x14x128, .f32⟩
  | 49 => ⟨S16x14x14x128, .f32⟩
  | 50 => ⟨S16x14x14x128, .f32⟩
  | 51 => ⟨S16x14x14x128, .f32⟩
  | 52 => ⟨S16x14x14x128, .f32⟩
  | 53 => ⟨S16x14x14x128, .f32⟩
  | 54 => ⟨S16x14x14x128, .f32⟩
  | 55 => ⟨S16x14x14x128, .f32⟩
  | 56 => ⟨S16x196x128, .f32⟩
  | 57 => ⟨S_, .f32⟩
  | 58 => ⟨S16x196, .f32⟩
  | 59 => ⟨S16x196x1, .f32⟩
  | 60 => ⟨S16x196x128, .f32⟩
  | 61 => ⟨S16x196x128, .f32⟩
  | 62 => ⟨S16x14x1x14x128, .f32⟩
  | 63 => ⟨S16x14x14x128, .f32⟩
  | 64 => ⟨S16x14x1x14x128, .f32⟩
  | 65 => ⟨S16x14x14x128, .f32⟩
  | 66 => ⟨S16x14x1x14x128, .f32⟩
  | 67 => ⟨S16x14x14x128, .f32⟩
  | 68 => ⟨S16x14x1x14x128, .f32⟩
  | 69 => ⟨S16x14x14x128, .f32⟩
  | 70 => ⟨S16x14x1x14x128, .f32⟩
  | 71 => ⟨S16x14x14x128, .f32⟩
  | 72 => ⟨S16x14x1x14x128, .f32⟩
  | 73 => ⟨S16x14x14x128, .f32⟩
  | 74 => ⟨S16x14x1x14x128, .f32⟩
  | 75 => ⟨S16x14x14x128, .f32⟩
  | 76 => ⟨S16x14x1x14x128, .f32⟩
  | 77 => ⟨S16x14x14x128, .f32⟩
  | 78 => ⟨S16x14x1x14x128, .f32⟩
  | 79 => ⟨S16x14x14x128, .f32⟩
  | 80 => ⟨S16x14x1x14x128, .f32⟩
  | 81 => ⟨S16x14x14x128, .f32⟩
  | 82 => ⟨S16x14x1x14x128, .f32⟩
  | 83 => ⟨S16x14x14x128, .f32⟩
  | 84 => ⟨S16x14x1x14x128, .f32⟩
  | 85 => ⟨S16x14x14x128, .f32⟩
  | 86 => ⟨S16x14x1x14x128, .f32⟩
  | 87 => ⟨S16x14x14x128, .f32⟩
  | 88 => ⟨S16x14x1x14x128, .f32⟩
  | 89 => ⟨S16x14x14x128, .f32⟩
  | 90 => ⟨S16x14x14x128, .f32⟩
  | 91 => ⟨S16x14x14x128, .f32⟩
  | 92 => ⟨S16x14x14x128, .f32⟩
  | 93 => ⟨S16x14x14x128, .f32⟩
  | 94 => ⟨S16x14x14x128, .f32⟩
  | 95 => ⟨S16x14x14x128, .f32⟩
  | 96 => ⟨S16x14x14x128, .f32⟩
  | 97 => ⟨S16x14x14x128, .f32⟩
  | 98 => ⟨S16x14x14x128, .f32⟩
  | 99 => ⟨S16x14x14x128, .f32⟩
  | 100 => ⟨S16x14x14x128, .f32⟩
  | 101 => ⟨S16x14x14x128, .f32⟩
  | 102 => ⟨S16x14x14x128, .f32⟩
  | 103 => ⟨S16x196x128, .f32⟩
  | 104 => ⟨S_, .f32⟩
  | 105 => ⟨S16x196, .f32⟩
  | 106 => ⟨S16x196x1, .f32⟩
  | 107 => ⟨S16x196x128, .f32⟩
  | 108 => ⟨S16x196x128, .f32⟩
  | 109 => ⟨S28, .i32⟩
  | 110 => ⟨S_, .i32⟩
  | 111 => ⟨S28, .i32⟩
  | 112 => ⟨S28, .i1⟩
  | 113 => ⟨S_, .i32⟩
  | 114 => ⟨S28, .i32⟩
  | 115 => ⟨S28, .i32⟩
  | 116 => ⟨S28, .i32⟩
  | 117 => ⟨S28x1, .i32⟩
  | 118 => ⟨S1, .i32⟩
  | 119 => ⟨S_, .i32⟩
  | 120 => ⟨S28x1, .i32⟩
  | 121 => ⟨S28x1, .i1⟩
  | 122 => ⟨S1x1, .i32⟩
  | 123 => ⟨S28x1, .i32⟩
  | 124 => ⟨S28x1, .i1⟩
  | 125 => ⟨S28x1, .i1⟩
  | 126 => ⟨S_, .i1⟩
  | 127 => ⟨S28, .i1⟩
  | _ => ⟨S16x196x128, .f32⟩

abbrev hbmTy0_2 (i : Nat) : BufTy := match i % 128 with
  | 0 => ⟨S16x28x128, .f32⟩
  | 1 => ⟨S16x28x128, .i1⟩
  | 2 => ⟨S_, .f32⟩
  | 3 => ⟨S16x28x128, .f32⟩
  | 4 => ⟨S16x28x128, .f32⟩
  | 5 => ⟨S16x28x1x128, .f32⟩
  | 6 => ⟨S16x28x1x128, .f32⟩
  | 7 => ⟨S16x28x128, .f32⟩
  | 8 => ⟨S16x28x1x128, .f32⟩
  | 9 => ⟨S16x28x1x1x128, .f32⟩
  | 10 => ⟨S16x28x1x128, .f32⟩
  | 11 => ⟨S28, .i32⟩
  | 12 => ⟨S16x28x128, .f32⟩
  | 13 => ⟨S_, .i32⟩
  | 14 => ⟨S28, .i32⟩
  | 15 => ⟨S28, .i1⟩
  | 16 => ⟨S_, .i32⟩
  | 17 => ⟨S28, .i32⟩
  | 18 => ⟨S28, .i32⟩
  | 19 => ⟨S28, .i32⟩
  | 20 => ⟨S28x1, .i32⟩
  | 21 => ⟨S16x196x128, .f32⟩
  | 22 => ⟨S_, .f32⟩
  | 23 => ⟨S16x196, .f32⟩
  | 24 => ⟨S16x196x1, .f32⟩
  | 25 => ⟨S16x196x128, .f32⟩
  | 26 => ⟨S16x196x128, .f32⟩
  | _ => ⟨S16x196x128, .f32⟩

abbrev hbmTy (i : Nat) : BufTy := match i / 128 with
  | 0 => hbmTy0_0 i
  | 1 => hbmTy0_1 i
  | 2 => hbmTy0_2 i
  | _ => ⟨S16x196x128, .f32⟩

abbrev bufTy : (tb : Table) → Fin (tcTables nBuf tb) → BufTy
  | .hbm, ⟨i, _⟩ => hbmTy i
  | _, _ => ⟨S16x196x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_6 : Ref sig .tc := ⟨.hbm, 67, rfl⟩
abbrev main_v30 : Ref sig .tc := ⟨.hbm, 68, rfl⟩
abbrev main_v31 : Ref sig .tc := ⟨.hbm, 69, rfl⟩
abbrev main_c_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_8 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_9 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v49 : Ref sig .tc := ⟨.hbm, 110, rfl⟩
abbrev main_c_10 : Ref sig .tc := ⟨.hbm, 111, rfl⟩
abbrev main_v50 : Ref sig .tc := ⟨.hbm, 112, rfl⟩
abbrev main_v51 : Ref sig .tc := ⟨.hbm, 113, rfl⟩
abbrev main_c_11 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_cst_12 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_13 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_14 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_call5_c : Ref sig .tc := ⟨.hbm, 238, rfl⟩
abbrev main_call5_v0 : Ref sig .tc := ⟨.hbm, 239, rfl⟩
abbrev main_call5_v1 : Ref sig .tc := ⟨.hbm, 240, rfl⟩
abbrev main_call5_c_0 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_call5_v5 : Ref sig .tc := ⟨.hbm, 245, rfl⟩
abbrev main_call5_c_1 : Ref sig .tc := ⟨.hbm, 246, rfl⟩
abbrev main_call5_c_2 : Ref sig .tc := ⟨.hbm, 247, rfl⟩
abbrev main_call5_v6 : Ref sig .tc := ⟨.hbm, 248, rfl⟩
abbrev main_call5_v7 : Ref sig .tc := ⟨.hbm, 249, rfl⟩
abbrev main_call5_v8 : Ref sig .tc := ⟨.hbm, 250, rfl⟩
abbrev main_call5_v9 : Ref sig .tc := ⟨.hbm, 251, rfl⟩
abbrev main_call5_v10 : Ref sig .tc := ⟨.hbm, 252, rfl⟩
abbrev main_call5_v11 : Ref sig .tc := ⟨.hbm, 253, rfl⟩
abbrev main_call5_c_3 : Ref sig .tc := ⟨.hbm, 254, rfl⟩
abbrev main_call5_v12 : Ref sig .tc := ⟨.hbm, 255, rfl⟩
abbrev main_call5_v13 : Ref sig .tc := ⟨.hbm, 256, rfl⟩
abbrev main_call5_v14 : Ref sig .tc := ⟨.hbm, 257, rfl⟩
abbrev main_call5_cst : Ref sig .tc := ⟨.hbm, 258, rfl⟩
abbrev main_call5_v15 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_c_15 : Ref sig .tc := ⟨.hbm, 269, rfl⟩
abbrev main_v178 : Ref sig .tc := ⟨.hbm, 270, rfl⟩
abbrev main_v179 : Ref sig .tc := ⟨.hbm, 271, rfl⟩
abbrev main_c_16 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_cst_17 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩

abbrev nD : Nat := 1
abbrev τ : Topo := Topo.v7x

variable {F : FTy → Type} [FloatOps F]
-- ==== Proof.Positive.lean ====
module
public import proofs.«01_k».proof.Proof.Gen.Pre_positive
public import Idealize.ShloMosaic.Lib.ReduceAll
public import Idealize.ShloMosaic.Lib.Pointwise

/-! # What the precondition says: every entry of both arguments is a positive real number -/

@[expose] public section
set_option maxRecDepth 16384
noncomputable section
namespace Cert.Proof
open Idealize.ShloMosaic Cert.Pre_positive

theorem bits_top : Ideal.ofBits .f32 0x7F800000#32 = (⊤ : EReal) := by
  have h1 : BitVec.extractLsb' (8 + 23) 1 0x7F800000#32 = 0#1 := by decide
  have h2 : BitVec.extractLsb' 23 8 0x7F800000#32 = 255#8 := by decide
  have h3 : BitVec.extractLsb' 0 23 0x7F800000#32 = 0#23 := by decide
  simp only [Ideal.ofBits, Ideal.ieee, h1, h2, h3]
  norm_num

theorem bits_zero : Ideal.ofBits .f32 0x00000000#32 = (0 : EReal) := by
  have h1 : BitVec.extractLsb' (8 + 23) 1 0x00000000#32 = 0#1 := by decide
  have h2 : BitVec.extractLsb' 23 8 0x00000000#32 = 0#8 := by decide
  have h3 : BitVec.extractLsb' 0 23 0x00000000#32 = 0#23 := by decide
  simp only [Ideal.ofBits, Ideal.ieee, h1, h2, h3]
  norm_num

theorem gt_zero (x : EReal) (h : Ideal.cmp .ogt x (Ideal.ofBits .f32 0x00000000#32) = 1#1) : 0 < x := by
  rw [bits_zero] at h
  by_contra hx
  simp [Ideal.cmp, hx] at h

theorem lt_top (x : EReal) (h : Ideal.cmp .olt x (Ideal.ofBits .f32 0x7F800000#32) = 1#1) : x < ⊤ := by
  rw [bits_top] at h
  by_contra hx
  simp [Ideal.cmp, hx] at h

theorem and_ones {u v : BitVec 1} (h : IntOp.andi u v = 1#1) : u = 1#1 ∧ v = 1#1 := by
  revert u v
  decide

theorem entries (x y : FVec Ideal S16x196x128 .f32) (h : fn x y = fun _ => 1#1) (i : S16x196x128.Idx) :
    ((0 : EReal) < x i ∧ (x i : EReal) < ⊤) ∧ ((0 : EReal) < y i ∧ (y i : EReal) < ⊤) := by
  haveI : Subsingleton S_.Idx := ⟨fun u v => funext fun k => k.elim0⟩
  have e := Host.reduce_andi_all _ _ _ _ _ (congrFun h (fun k => k.elim0)) i
  obtain ⟨e3, h4⟩ := and_ones e
  obtain ⟨e2, h3⟩ := and_ones e3
  obtain ⟨h1, h2⟩ := and_ones e2
  exact ⟨⟨gt_zero _ h1, lt_top _ h2⟩, ⟨gt_zero _ h3, lt_top _ h4⟩⟩

/-- An argument's entries as reals, at any numbers; outside the array 1. -/
def number (x : FVec Ideal S16x196x128 .f32) (p i : ℕ) (l : Fin 128) : ℝ :=
  if h : p < 16 ∧ i < 196 then (x (ix3 ⟨p, h.1⟩ ⟨i, h.2⟩ l) : EReal).toReal else 1

theorem number_pos (x : FVec Ideal S16x196x128 .f32)
    (h : ∀ i, (0 : EReal) < x i ∧ (x i : EReal) < ⊤) (p i : ℕ) (l : Fin 128) : 0 < number x p i l := by
  unfold number
  split_ifs with hp
  · exact EReal.toReal_pos (h _).1 (h _).2.ne
  · exact one_pos

theorem number_apply (x : FVec Ideal S16x196x128 .f32)
    (h : ∀ i, (0 : EReal) < x i ∧ (x i : EReal) < ⊤) (p : Fin 16) (i : Fin 196) (l : Fin 128) :
    (x (ix3 p i l) : EReal) = (number x p i l : EReal) := by
  unfold number
  rw [dif_pos ⟨p.isLt, i.isLt⟩]
  exact (EReal.coe_toReal (h _).2.ne (ne_bot_of_gt (h _).1)).symm

end Cert.Proof
-- ==== Proof.Finite.lean ====
/- Finite extended reals: sums, products and quotients of reals, and the normalised row. -/
module

public import Idealize.ShloMosaic.Lib.IdealHost

@[expose] public section

noncomputable section

namespace Cert.Proof

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul]; congr 1; ring

theorem one_div_real (y : ℝ) (h : y ≠ 0) : Ideal.div 1 (y : EReal) = ((1 / y : ℝ) : EReal) := by
  rw [← EReal.coe_one, div_real _ _ h]

/-- A row divided by its sum. -/
def nrm {n : ℕ} (f : Fin n → ℝ) (l : Fin n) : ℝ := f l / ∑ k, f k

theorem nrm_nrm {n : ℕ} (f : Fin n → ℝ) (h : ∑ k, f k ≠ 0) : nrm (nrm f) = nrm f := by
  have hs : ∑ k, nrm f k = 1 := by
    unfold nrm
    simp only [div_eq_mul_inv]
    rw [← Finset.sum_mul, mul_inv_cancel₀ h]
  funext l
  show nrm f l / ∑ k, nrm f k = nrm f l
  rw [hs, div_one]

theorem sum_nrm {n : ℕ} (f : Fin n → ℝ) (h : ∑ k, f k ≠ 0) : ∑ k, nrm f k = 1 := by
  unfold nrm
  simp only [div_eq_mul_inv]
  rw [← Finset.sum_mul, mul_inv_cancel₀ h]

/-- A factor common to a row does not change the normalised row. -/
theorem nrm_scale {n : ℕ} (a : ℝ) (ha : a ≠ 0) (f : Fin n → ℝ) : nrm (fun l => a * f l) = nrm f := by
  funext l
  unfold nrm
  rw [← Finset.mul_sum, mul_div_mul_left _ _ ha]

end Cert.Proof

end
-- ==== Proof.Correlation.lean ====
/- The half spectrum of a real signal of 128 samples, packed in 128 lanes, and the theorem the kernel rests on:
   multiplying two packed spectra lane by lane and returning through the inverse table gives the circular
   correlation of the two signals. -/
module

public import Mathlib.Analysis.SpecialFunctions.Trigonometric.Basic
public import Mathlib.Analysis.SpecialFunctions.Complex.Log
public import Mathlib.Algebra.Field.GeomSum

@[expose] public section

noncomputable section

namespace Cert.Proof

open Finset

/-- The forward table: cosines in lanes 0 to 64, negated sines of frequency `k − 64` above. -/
def FP (n k : ℕ) : ℝ :=
  if k ≤ 64 then Real.cos (((n * k % 128 : ℕ) : ℝ) * (Real.pi / 64))
  else -Real.sin (((n * (k - 64) % 128 : ℕ) : ℝ) * (Real.pi / 64))

/-- The inverse table. -/
def GP (k l : ℕ) : ℝ :=
  if k ≤ 64 then (if k = 0 ∨ k = 64 then 1 / 128 else 1 / 64) * Real.cos (((k * l % 128 : ℕ) : ℝ) * (Real.pi / 64))
  else (-(1 / 64)) * Real.sin ((((k - 64) * l % 128 : ℕ) : ℝ) * (Real.pi / 64))

/-- The packed half spectrum of `u`. -/
def spec (u : Fin 128 → ℝ) (k : ℕ) : ℝ := ∑ n : Fin 128, u n * FP n k

/-- The packed spectrum turned by 64 lanes, with lanes 0 and 64 cleared. -/
def turned (u : Fin 128 → ℝ) (k : ℕ) : ℝ :=
  if k = 0 ∨ k = 64 then 0 else if k < 64 then spec u (k + 64) else spec u (k - 64)

/-- One lane of the product of the spectrum of `u` by the conjugate spectrum of `v`. -/
def packed (u v : Fin 128 → ℝ) (k : ℕ) : ℝ :=
  spec u k * (if k ≤ 64 then spec v k else turned v k)
    + (if k ≤ 64 then turned u k else 0 - turned u k) * (if k ≤ 64 then turned v k else spec v k)

/-- Circular correlation at lag `l`. -/
def corr (u v : Fin 128 → ℝ) (l : Fin 128) : ℝ :=
  ∑ n : Fin 128, u ⟨(n.val + l.val) % 128, Nat.mod_lt _ (by norm_num)⟩ * v n

/-- Cosine at a whole number of steps of the circle cut in 128. -/
def cz (z : ℤ) : ℝ := Real.cos ((z : ℝ) * (Real.pi / 64))
/-- Sine at a whole number of steps of the circle cut in 128. -/
def sz (z : ℤ) : ℝ := Real.sin ((z : ℝ) * (Real.pi / 64))

theorem step_split (a : ℕ) : (a : ℝ) * (Real.pi / 64)
    = ((a % 128 : ℕ) : ℝ) * (Real.pi / 64) + ((a / 128 : ℕ) : ℝ) * (2 * Real.pi) := by
  have h : (a : ℝ) = ((a % 128 : ℕ) : ℝ) + 128 * ((a / 128 : ℕ) : ℝ) := by
    exact_mod_cast (Nat.mod_add_div a 128).symm
  rw [h]; ring

theorem cos_mod (a : ℕ) : Real.cos (((a % 128 : ℕ) : ℝ) * (Real.pi / 64)) = cz a := by
  unfold cz
  rw [Int.cast_natCast, step_split a, Real.cos_add_nat_mul_two_pi]

theorem sin_mod (a : ℕ) : Real.sin (((a % 128 : ℕ) : ℝ) * (Real.pi / 64)) = sz a := by
  unfold sz
  rw [Int.cast_natCast, step_split a, Real.sin_add_nat_mul_two_pi]

theorem cz_sub (a b : ℤ) : cz (a - b) = cz a * cz b + sz a * sz b := by
  unfold cz sz; rw [← Real.cos_sub]; congr 1; push_cast; ring

theorem sz_sub (a b : ℤ) : sz (a - b) = sz a * cz b - cz a * sz b := by
  unfold cz sz; rw [← Real.sin_sub]; congr 1; push_cast; ring

theorem cz_neg (a : ℤ) : cz (-a) = cz a := by
  unfold cz; rw [← Real.cos_neg]; congr 1; push_cast; ring

theorem cz_add128 (a k : ℤ) : cz (a + 128 * k) = cz a := by
  unfold cz
  rw [show ((a + 128 * k : ℤ) : ℝ) * (Real.pi / 64) = (a : ℝ) * (Real.pi / 64) + (k : ℝ) * (2 * Real.pi) by
    push_cast; ring]
  exact Real.cos_add_int_mul_two_pi _ k

theorem sz_64 (a : ℤ) : sz (64 * a) = 0 := by
  unfold sz
  rw [show ((64 * a : ℤ) : ℝ) * (Real.pi / 64) = (a : ℝ) * Real.pi by push_cast; ring]
  exact Real.sin_int_mul_pi a

/-- Orthogonality of the cosines. -/
theorem sum_cz (d : ℤ) : ∑ k ∈ range 128, cz (k * d) = if (128 : ℤ) ∣ d then 128 else 0 := by
  split_ifs with h
  · obtain ⟨e, rfl⟩ := h
    rw [Finset.sum_congr rfl (g := fun _ => (1 : ℝ))]
    · simp
    · intro k _
      have := cz_add128 0 (k * e)
      rw [show (k : ℤ) * (128 * e) = 0 + 128 * (k * e) by ring, this]
      simp [cz]
  · set w : ℂ := Complex.exp (((d : ℝ) * (Real.pi / 64) : ℝ) * Complex.I) with hw
    have hpow : ∀ k : ℕ, (w ^ k).re = cz (k * d) := by
      intro k
      rw [hw, ← Complex.exp_nat_mul]
      rw [show (k : ℂ) * (((d : ℝ) * (Real.pi / 64) : ℝ) * Complex.I)
        = (((k * d : ℤ) : ℝ) * (Real.pi / 64) : ℝ) * Complex.I by push_cast; ring]
      rw [Complex.exp_ofReal_mul_I_re]; rfl
    have h1 : w ≠ 1 := by
      intro h1
      rw [hw, Complex.exp_eq_one_iff] at h1
      obtain ⟨n, hn⟩ := h1
      apply h
      refine ⟨n, ?_⟩
      have hn' : ((d : ℝ) * (Real.pi / 64) : ℝ) = n * (2 * Real.pi) := by
        have : (((d : ℝ) * (Real.pi / 64) : ℝ) : ℂ) * Complex.I = ((n * (2 * Real.pi) : ℝ) : ℂ) * Complex.I := by
          rw [hn]; push_cast; ring
        exact_mod_cast mul_right_cancel₀ Complex.I_ne_zero this
      have hp := Real.pi_pos.ne'
      have : (d : ℝ) = 128 * n := by
        field_simp at hn'
        nlinarith [hn']
      exact_mod_cast this
    have h128 : w ^ 128 = 1 := by
      rw [hw, ← Complex.exp_nat_mul, Complex.exp_eq_one_iff]
      exact ⟨d, by push_cast; ring⟩
    have hs : ∑ k ∈ range 128, w ^ k = 0 := by
      rw [geom_sum_eq h1, h128]; simp
    calc ∑ k ∈ range 128, cz (k * d) = (∑ k ∈ range 128, w ^ k).re := by
          rw [Complex.re_sum]; exact Finset.sum_congr rfl fun k _ => (hpow k).symm
      _ = 0 := by rw [hs]; simp

/-- A sum over the lanes, cut at the two unpaired lanes. -/
theorem sum_lanes (f : ℕ → ℝ) : ∑ k ∈ range 128, f k
    = f 0 + f 64 + ∑ j ∈ range 63, (f (j + 1) + f (j + 65)) := by
  rw [show (128 : ℕ) = 65 + 63 from rfl, Finset.sum_range_add, Finset.sum_range_succ, Finset.sum_range_succ',
    Finset.sum_add_distrib]
  have : ∑ x ∈ range 63, f (65 + x) = ∑ x ∈ range 63, f (x + 65) :=
    Finset.sum_congr rfl fun x _ => by rw [Nat.add_comm]
  rw [this]; ring

/-- The sum over a symmetric family, by the same cut. -/
theorem sum_lanes_symm (f : ℕ → ℝ) (hf : ∀ j, j < 63 → f (128 - (j + 1)) = f (j + 1)) :
    ∑ k ∈ range 128, f k = f 0 + f 64 + ∑ j ∈ range 63, 2 * f (j + 1) := by
  rw [sum_lanes, Finset.sum_add_distrib]
  have h : ∑ j ∈ range 63, f (j + 65) = ∑ j ∈ range 63, f (j + 1) := by
    rw [← Finset.sum_range_reflect]
    refine Finset.sum_congr rfl fun j hj => ?_
    have hj' := Finset.mem_range.mp hj
    rw [← hf j hj']; congr 1; omega
  rw [h, ← Finset.mul_sum]; ring

/-- The lane's factor of `u m * v n` in the product of spectra. -/
def lane (k : ℕ) (d : ℤ) : ℝ := if k ≤ 64 then cz (k * d) else -sz (((k - 64 : ℕ) : ℤ) * d)

theorem lane_sum (d : ℤ) (l : ℕ) :
    ∑ k ∈ range 128, lane k d * GP k l = if (128 : ℤ) ∣ d - l then 1 else 0 := by
  have key := sum_cz (d - l)
  rw [sum_lanes_symm] at key
  · rw [sum_lanes]
    have e0 : lane 0 d * GP 0 l = cz (((0 : ℕ) : ℤ) * (d - l)) / 128 := by
      simp [lane, GP, cz]
    have e64 : lane 64 d * GP 64 l = cz (((64 : ℕ) : ℤ) * (d - l)) / 128 := by
      simp only [lane, GP, le_refl, if_true, or_true]
      rw [cos_mod, mul_sub, cz_sub]
      have := sz_64 d
      push_cast at *
      rw [this]; ring
    have ej : ∀ j ∈ range 63, lane (j + 1) d * GP (j + 1) l + lane (j + 65) d * GP (j + 65) l
        = (2 * cz (((j + 1 : ℕ) : ℤ) * (d - l))) / 128 := by
      intro j hj
      have hj' := Finset.mem_range.mp hj
      simp only [lane, GP, show j + 1 ≤ 64 by omega, show ¬ (j + 65 ≤ 64) by omega,
        show ¬ (j + 1 = 0 ∨ j + 1 = 64) by omega, if_true, if_false, show j + 65 - 64 = j + 1 by omega]
      rw [cos_mod, sin_mod, mul_sub, cz_sub]
      push_cast
      ring
    simp only [div_eq_mul_inv] at e0 e64 ej
    rw [e0, e64, Finset.sum_congr rfl ej, ← Finset.sum_mul, ← add_mul, ← add_mul, key]
    split_ifs <;> norm_num
  · intro j hj
    rw [← cz_neg]
    rw [← cz_add128 _ (d - l)]
    congr 1
    rw [Nat.cast_sub (by omega)]
    push_cast; ring

/-- Cosine coefficients of `u`. -/
def cosC (u : Fin 128 → ℝ) (j : ℕ) : ℝ := ∑ m : Fin 128, u m * cz (j * m.val)
/-- Sine coefficients of `u`. -/
def sinC (u : Fin 128 → ℝ) (j : ℕ) : ℝ := ∑ m : Fin 128, u m * sz (j * m.val)

theorem spec_low (u : Fin 128 → ℝ) (k : ℕ) (h : k ≤ 64) : spec u k = cosC u k := by
  unfold spec cosC
  refine Finset.sum_congr rfl fun m _ => ?_
  simp only [FP, h, if_true]
  rw [cos_mod]; congr 2; push_cast; ring

theorem spec_high (u : Fin 128 → ℝ) (k : ℕ) (h : 64 < k) : spec u k = -sinC u (k - 64) := by
  unfold spec sinC
  rw [← Finset.sum_neg_distrib]
  refine Finset.sum_congr rfl fun m _ => ?_
  simp only [FP, Nat.not_le.mpr h, if_false]
  rw [sin_mod, mul_neg]; congr 3; push_cast; ring

theorem turned_low (u : Fin 128 → ℝ) (k : ℕ) (h : k ≤ 64) : turned u k = -sinC u k := by
  unfold turned
  split_ifs with h1 h2
  · rcases h1 with rfl | rfl
    · simp [sinC, sz]
    · unfold sinC
      rw [Finset.sum_eq_zero]; · simp
      intro m _
      have := sz_64 (m.val : ℤ)
      push_cast; rw [this, mul_zero]
  · rw [spec_high _ _ (by omega)]; simp
  · omega

theorem turned_high (u : Fin 128 → ℝ) (k : ℕ) (h : 64 < k) (hk : k < 128) : turned u k = cosC u (k - 64) := by
  unfold turned
  rw [if_neg (by omega), if_neg (by omega), spec_low _ _ (by omega)]

theorem packed_eq (u v : Fin 128 → ℝ) (k : ℕ) (hk : k < 128) :
    packed u v k = ∑ n : Fin 128, ∑ m : Fin 128, u m * v n * lane k ((m.val : ℤ) - n.val) := by
  unfold packed
  by_cases h : k ≤ 64
  · simp only [h, if_true, lane]
    rw [spec_low _ _ h, spec_low _ _ h, turned_low _ _ h, turned_low _ _ h, neg_mul_neg]
    unfold cosC sinC
    rw [Finset.sum_mul_sum, Finset.sum_mul_sum, ← Finset.sum_add_distrib, Finset.sum_comm]
    refine Finset.sum_congr rfl fun m _ => ?_
    rw [← Finset.sum_add_distrib]
    refine Finset.sum_congr rfl fun n _ => ?_
    rw [mul_sub, cz_sub]; ring
  · have h' : 64 < k := by omega
    simp only [h, if_false, lane]
    rw [spec_high _ _ h', spec_high _ _ h', turned_high _ _ h' hk, turned_high _ _ h' hk, zero_sub, neg_mul_neg, neg_mul]
    unfold cosC sinC
    rw [Finset.sum_mul_sum, Finset.sum_mul_sum, ← Finset.sum_neg_distrib, ← Finset.sum_add_distrib, Finset.sum_comm]
    refine Finset.sum_congr rfl fun m _ => ?_
    rw [← Finset.sum_neg_distrib, ← Finset.sum_add_distrib]
    refine Finset.sum_congr rfl fun n _ => ?_
    rw [mul_sub, sz_sub]; ring

/-- THE CORRELATION THEOREM: the packed product through the inverse table is the circular correlation. -/
theorem packed_inverse (u v : Fin 128 → ℝ) (l : Fin 128) :
    ∑ k : Fin 128, packed u v k.val * GP k.val l.val = corr u v l := by
  rw [Fin.sum_univ_eq_sum_range (fun k => packed u v k * GP k l.val) 128]
  have h1 : ∀ k ∈ range 128, packed u v k * GP k l.val
      = ∑ n : Fin 128, ∑ m : Fin 128, u m * v n * (lane k ((m.val : ℤ) - n.val) * GP k l.val) := by
    intro k hk
    rw [packed_eq u v k (Finset.mem_range.mp hk), Finset.sum_mul]
    refine Finset.sum_congr rfl fun n _ => ?_
    rw [Finset.sum_mul]
    exact Finset.sum_congr rfl fun m _ => by ring
  rw [Finset.sum_congr rfl h1, Finset.sum_comm]
  unfold corr
  refine Finset.sum_congr rfl fun n _ => ?_
  rw [Finset.sum_comm]
  have h2 : ∀ m ∈ (Finset.univ : Finset (Fin 128)), ∑ k ∈ range 128, u m * v n * (lane k ((m.val : ℤ) - n.val) * GP k l.val)
      = u m * v n * (if (128 : ℤ) ∣ ((m.val : ℤ) - n.val) - l.val then 1 else 0) := by
    intro m _
    rw [← Finset.mul_sum, lane_sum]
  rw [Finset.sum_congr rfl h2]
  rw [Finset.sum_eq_single (⟨(n.val + l.val) % 128, Nat.mod_lt _ (by norm_num)⟩ : Fin 128)]
  · rw [if_pos (by simp only; omega), mul_one]
  · intro m _ hm
    rw [if_neg, mul_zero]
    intro hd
    apply hm
    apply Fin.ext
    show m.val = (n.val + l.val) % 128
    omega
  · intro h; exact absurd (Finset.mem_univ _) h

end Cert.Proof

end
-- ==== Proof.Model.lean ====
module
public import proofs.«01_k».proof.Proof.Finite
public import proofs.«01_k».proof.Proof.Correlation

/-! # The messages as real numbers

The starting messages, their signs, and the ways of writing them that the kernel and the reference use. -/

@[expose] public section
noncomputable section
namespace Cert.Proof

/-- The unit pulse at lane 0. -/
def pulse (l : Fin 128) : ℝ := if l.val = 0 then 1 else 0

/-- The product of the two arguments, with the pulse on the places `a = c`. -/
def zrow (i : ℕ) (f g : Fin 128 → ℝ) (l : Fin 128) : ℝ :=
  if i % 15 = 0 then pulse l else f l * g l

/-- The normalised product of the arguments, one batch entry and place. -/
def start (a b : ℕ → ℕ → Fin 128 → ℝ) (p i : ℕ) : Fin 128 → ℝ := nrm (zrow i (a p i) (b p i))

/-- The first argument with the pulse on the places `a = c`. -/
def masked (i : ℕ) (f : Fin 128 → ℝ) (l : Fin 128) : ℝ := if i % 15 = 0 then pulse l else f l

/-- The rows grid point `t` works on. -/
def rows (a b : ℕ → ℕ → Fin 128 → ℝ) (t r : ℕ) : Fin 128 → ℝ := start a b (2 * t + r / 196) (r % 196)

/-- One entry of the combination the products run over: the correlation of row `c` with row `a` of
the place `b` they pass through, or one. -/
def entry (X : ℕ → Fin 128 → ℝ) (b s : ℕ) (l : Fin 128) : ℝ :=
  if ((s / 16 = b % 14 ∨ s % 16 = b % 14) ∨ 14 ≤ s / 16) ∨ 14 ≤ s % 16 then 1
  else corr (X (b * 14 + s % 16)) (X (b * 14 + s / 16)) l

/-- The product over the places passed through, for row `r` of a block. -/
def through (X : ℕ → Fin 128 → ℝ) (r : ℕ) (l : Fin 128) : ℝ :=
  ∏ k ∈ Finset.range 14, entry X (r / 196 * 14 + k) (r / 14 % 14 * 16 + r % 14) l

/-- The rows with the two places exchanged and the lags reversed. -/
def back (X : ℕ → Fin 128 → ℝ) (r : ℕ) (l : Fin 128) : ℝ :=
  X (r / 196 * 196 + r % 14 * 14 + r / 14 % 14) ⟨(128 - l.val) % 128, Nat.mod_lt _ (by norm_num)⟩

/-- The second result's row before it is normalised. -/
def urow (X M : ℕ → Fin 128 → ℝ) (r i : ℕ) (l : Fin 128) : ℝ :=
  if i % 15 = 0 then pulse l else M r l * X r l * back X r l

theorem sum_pulse : ∑ l, pulse l = 1 := by
  rw [Finset.sum_eq_single (0 : Fin 128)]
  · rfl
  · intro l _ h
    exact if_neg fun h' => h (Fin.ext h')
  · intro h
    exact absurd (Finset.mem_univ _) h

theorem nrm_pulse : nrm pulse = pulse := by
  funext l
  unfold nrm
  rw [sum_pulse, div_one]

theorem sum_pos128 (f : Fin 128 → ℝ) (h : ∀ l, 0 < f l) : 0 < ∑ l, f l :=
  Finset.sum_pos (fun l _ => h l) ⟨0, Finset.mem_univ _⟩

theorem nrm_pos (f : Fin 128 → ℝ) (h : ∀ l, 0 < f l) (l : Fin 128) : 0 < nrm f l :=
  div_pos (h l) (sum_pos128 f h)

section
variable {a b : ℕ → ℕ → Fin 128 → ℝ} (ha : ∀ p i l, 0 < a p i l) (hb : ∀ p i l, 0 < b p i l)
include ha

theorem sum_masked_pos (p i : ℕ) : 0 < ∑ l, masked i (a p i) l := by
  unfold masked
  by_cases h : i % 15 = 0
  · simp only [if_pos h, sum_pulse]
    norm_num
  · simp only [if_neg h]
    exact sum_pos128 _ (ha p i)

include hb

theorem sum_zrow_pos (p i : ℕ) : 0 < ∑ l, zrow i (a p i) (b p i) l := by
  unfold zrow
  by_cases h : i % 15 = 0
  · simp only [if_pos h, sum_pulse]
    norm_num
  · simp only [if_neg h]
    exact sum_pos128 _ fun l => mul_pos (ha p i l) (hb p i l)

omit ha hb in
theorem start_diag (p i : ℕ) (h : i % 15 = 0) : start a b p i = pulse := by
  have : zrow i (a p i) (b p i) = pulse := funext fun l => if_pos h
  unfold start
  rw [this, nrm_pulse]

theorem start_pos (p i : ℕ) (h : ¬ i % 15 = 0) (l : Fin 128) : 0 < start a b p i l := by
  have : zrow i (a p i) (b p i) = fun l => a p i l * b p i l := funext fun l => if_neg h
  unfold start
  rw [this]
  exact nrm_pos _ (fun l => mul_pos (ha p i l) (hb p i l)) l

/-- Masking and normalising before the product is taken gives the same messages. -/
theorem two_steps (p i : ℕ) :
    ∃ s : ℝ, 0 < s ∧ (fun l => b p i l * nrm (masked i (a p i)) l)
      = fun l => s * zrow i (a p i) (b p i) l := by
  by_cases h : i % 15 = 0
  · refine ⟨b p i 0, hb p i 0, funext fun l => ?_⟩
    have e : masked i (a p i) = pulse := funext fun l => if_pos h
    rw [e, nrm_pulse]
    unfold zrow
    rw [if_pos h]
    unfold pulse
    by_cases hl : l.val = 0
    · have : l = 0 := Fin.ext hl
      rw [this]
    · rw [if_neg hl, mul_zero, mul_zero]
  · refine ⟨1 / ∑ k, a p i k, by have := sum_pos128 _ (ha p i); positivity, funext fun l => ?_⟩
    have e : masked i (a p i) = a p i := funext fun l => if_neg h
    rw [e]
    unfold zrow nrm
    rw [if_neg h]
    ring

theorem sum_two_steps_ne (p i : ℕ) : ∑ l, b p i l * nrm (masked i (a p i)) l ≠ 0 := by
  obtain ⟨s, hs, e⟩ := two_steps ha hb p i
  rw [e, ← Finset.mul_sum]
  exact (mul_pos hs (sum_zrow_pos ha hb p i)).ne'

theorem nrm_two_steps (p i : ℕ) : nrm (fun l => b p i l * nrm (masked i (a p i)) l) = start a b p i := by
  obtain ⟨s, hs, e⟩ := two_steps ha hb p i
  rw [e, nrm_scale s hs.ne']
  rfl

theorem sum_start (p i : ℕ) : ∑ l, start a b p i l = 1 := sum_nrm _ (sum_zrow_pos ha hb p i).ne'

theorem nrm_start (p i : ℕ) : nrm (start a b p i) = start a b p i :=
  nrm_nrm _ (sum_zrow_pos ha hb p i).ne'

end

end Cert.Proof
-- ==== Proof.Tables.lean ====
/- The tables that the host builds for the kernel, read at an index: real numbers. -/
module

public import proofs.«01_k».proof.Proof.Gen.KernelIdeal.Frame
public import proofs.«01_k».proof.Proof.Correlation
public import Idealize.ShloMosaic.Lib.StableHlo.ReadAt
public import Idealize.ShloMosaic.Lib.Pipeline.ValueKit
public import Idealize.ShloMosaic.Lib.Routing.Words
public import Idealize.ShloMosaic.Lib.WordCmp
public import Idealize.ShloMosaic.Lib.IdealHost
public import Mathlib.Analysis.SpecialFunctions.Trigonometric.Arctan

@[expose] public section

set_option maxRecDepth 16384

noncomputable section

namespace Cert.Proof

open Idealize.ShloMosaic Cert.KernelIdeal Cert.KernelIdeal.Gen Idealize.SL.Sem

/-- Transposes the two pilot axes of each batch entry's rows. -/
def PT (i j : ℕ) : ℝ := if (i / 196 = j / 196 ∧ i % 14 = j / 14 % 14) ∧ i / 14 % 14 = j % 14 then 1 else 0
/-- Reverses a row modulo 128. -/
def PR (i j : ℕ) : ℝ := if (i + j) % 128 = 0 then 1 else 0
/-- Pads the rows from 14 to 16 and drops each diagonal row. -/
def PP (i j : ℕ) : ℝ := if (i / 16 = j / 14 ∧ i % 16 = j % 14) ∧ ¬ i % 16 = i / 16 % 14 then 1 else 0
/-- The entries of the padded combination that hold one. -/
def MK (i : ℕ) : ℝ :=
  if ((i / 16 % 16 = i / 256 % 14 ∨ i % 16 = i / 256 % 14) ∨ 14 ≤ i / 16 % 16) ∨ 14 ≤ i % 16 then 1 else 0
/-- Drops the padding again. -/
def PX (i j : ℕ) : ℝ := if (i / 196 = j / 256 ∧ i / 14 % 14 = j / 16 % 16) ∧ i % 14 = j % 16 then 1 else 0

theorem coe_ite (p : Prop) [Decidable p] : (if p then (1 : EReal) else 0) = ((if p then (1 : ℝ) else 0 : ℝ) : EReal) := by
  split_ifs <;> simp

theorem select_ofBool {α : Type} (p : Prop) [Decidable p] (x y : α) :
    Scalar.select (BitVec.ofBool (decide p)) x y = if p then x else y := by
  unfold Scalar.select
  by_cases h : p <;> simp [h]

theorem bits_sixteenth : Ideal.ofBits .f32 1031798784#32 = ((1 / 16 : ℝ) : EReal) := by
  have h1 : BitVec.extractLsb' (8 + 23) 1 1031798784#32 = 0#1 := by decide
  have h2 : BitVec.extractLsb' 23 8 1031798784#32 = 123#8 := by decide
  have h3 : BitVec.extractLsb' 0 23 1031798784#32 = 0#23 := by decide
  simp only [Ideal.ofBits, Ideal.ieee, h1, h2, h3]
  norm_num

theorem bits_inv128 : Ideal.ofBits .f32 1006632960#32 = ((1 / 128 : ℝ) : EReal) := by
  have h1 : BitVec.extractLsb' (8 + 23) 1 1006632960#32 = 0#1 := by decide
  have h2 : BitVec.extractLsb' 23 8 1006632960#32 = 120#8 := by decide
  have h3 : BitVec.extractLsb' 0 23 1006632960#32 = 0#23 := by decide
  simp only [Ideal.ofBits, Ideal.ieee, h1, h2, h3]
  norm_num

theorem bits_inv64 : Ideal.ofBits .f32 1015021568#32 = ((1 / 64 : ℝ) : EReal) := by
  have h1 : BitVec.extractLsb' (8 + 23) 1 1015021568#32 = 0#1 := by decide
  have h2 : BitVec.extractLsb' 23 8 1015021568#32 = 121#8 := by decide
  have h3 : BitVec.extractLsb' 0 23 1015021568#32 = 0#23 := by decide
  simp only [Ideal.ofBits, Ideal.ieee, h1, h2, h3]
  norm_num

theorem bits_neg_inv64 : Ideal.ofBits .f32 3162505216#32 = ((-(1 / 64) : ℝ) : EReal) := by
  have h1 : BitVec.extractLsb' (8 + 23) 1 3162505216#32 = 1#1 := by decide
  have h2 : BitVec.extractLsb' 23 8 3162505216#32 = 121#8 := by decide
  have h3 : BitVec.extractLsb' 0 23 3162505216#32 = 0#23 := by decide
  simp only [Ideal.ofBits, Ideal.ieee, h1, h2, h3]
  norm_num

/-- The host's angle: a whole number of steps modulo 128, times a 64th of π. -/
theorem angle_word (a : ℕ) (h : a < 2 ^ 31) :
    (FloatOps.sitofp (F := Ideal) FTy.f32 (IntOp.remsi ArithUnit.host (BitVec.ofNat 32 a) 128#32) : EReal)
      * (Ideal.atan 1 * Ideal.ofBits FTy.f32 1031798784#32) = ((((a % 128 : ℕ) : ℝ) * (Real.pi / 64) : ℝ) : EReal) := by
  have h1 : Ideal.atan 1 = ((Real.pi / 4 : ℝ) : EReal) := by
    rw [← Real.arctan_one]; rfl
  have h2 : (FloatOps.sitofp (F := Ideal) FTy.f32 (IntOp.remsi ArithUnit.host (BitVec.ofNat 32 a) 128#32) : EReal)
      = (((a % 128 : ℕ) : ℝ) : EReal) := by
    rw [Routing.remsi_word _ h (by norm_num) (by norm_num)]
    have h3 : (BitVec.ofNat 32 (a % 128)).toInt = ((a % 128 : ℕ) : ℤ) :=
      WordCmp.toInt_ofNat_of_lt (lt_of_lt_of_le (Nat.mod_lt _ (by norm_num)) (by norm_num))
    show (((BitVec.ofNat 32 (a % 128)).toInt : ℝ) : EReal) = _
    rw [h3, Int.cast_natCast]
  rw [h1, h2, bits_sixteenth, ← EReal.coe_mul, ← EReal.coe_mul]
  congr 1; ring

/-- The frequency of a lane above 64. -/
theorem lane_word (k : ℕ) (h : 64 < k) (hk : k < 128) : IntOp.subi (BitVec.ofNat 32 k) 64#32 = BitVec.ofNat 32 (k - 64) := by
  show BitVec.ofNat 32 k - 64#32 = _
  bv_omega

variable (m : (ℓ : Loc nD τ sig) → Buf (Elt Ideal) ℓ) (c : Dev nD)

theorem table_pt (i j : Fin 392) : (V m c main_v71 (ix2 i j) : EReal) = (PT i.val j.val : EReal) := by
  unfold V
  after_reads_at
  simp (disch := omega) only [Routing.divsi_word, Routing.remsi_word, hlo_ix]
  unfold PT
  rw [coe_ite]

theorem table_pr (i j : Fin 128) : (V m c main_v79 (ix2 i j) : EReal) = (PR i.val j.val : EReal) := by
  unfold V
  after_reads_at
  simp (disch := omega) only [WordCmp.addi_ofNat, Routing.divsi_word, Routing.remsi_word, hlo_ix]
  unfold PR
  rw [coe_ite]

theorem table_pp (i : Fin 448) (j : Fin 392) : (V m c main_v101 (ix2 i j) : EReal) = (PP i.val j.val : EReal) := by
  unfold V
  after_reads_at
  simp (disch := omega) only [Routing.divsi_word, Routing.remsi_word, hlo_ix]
  unfold PP
  rw [coe_ite]

theorem table_mk (i : Fin 7168) (j : Fin 128) : (V m c main_v123 (ix2 i j) : EReal) = (MK i.val : EReal) := by
  unfold V
  after_reads_at
  simp (disch := omega) only [Routing.divsi_word, Routing.remsi_word, hlo_ix]
  unfold MK
  rw [coe_ite]

theorem table_px (i : Fin 392) (j : Fin 512) : (V m c main_v147 (ix2 i j) : EReal) = (PX i.val j.val : EReal) := by
  unfold V
  after_reads_at
  simp (disch := omega) only [Routing.divsi_word, Routing.remsi_word, hlo_ix]
  unfold PX
  rw [coe_ite]

theorem table_fp (n k : Fin 128) : (V m c main_v20 (ix2 n k) : EReal) = (FP n.val k.val : EReal) := by
  unfold V
  after_reads_at
  simp (disch := omega) only [hlo_ix]
  unfold FP
  by_cases h : k.val ≤ 64
  · have hb : n.val * k.val < 2 ^ 31 := lt_of_lt_of_le (Nat.mul_lt_mul'' n.isLt k.isLt) (by norm_num)
    simp only [h, if_true]
    rw [WordCmp.muli_ofNat, angle_word _ hb]
    rfl
  · have hb : n.val * (k.val - 64) < 2 ^ 31 :=
      lt_of_lt_of_le (Nat.mul_lt_mul'' n.isLt (show k.val - 64 < 128 by omega)) (by norm_num)
    simp only [h, if_false]
    rw [lane_word k.val (by omega) k.isLt, WordCmp.muli_ofNat, angle_word _ hb]
    rfl

theorem table_gp (k l : Fin 128) : (V m c main_v47 (ix2 k l) : EReal) = (GP k.val l.val : EReal) := by
  unfold V
  after_reads_at
  simp (disch := omega) only [hlo_ix]
  unfold GP
  by_cases h : k.val ≤ 64
  · have hb : k.val * l.val < 2 ^ 31 := lt_of_lt_of_le (Nat.mul_lt_mul'' k.isLt l.isLt) (by norm_num)
    simp only [h, if_true]
    rw [WordCmp.muli_ofNat, angle_word _ hb, bits_inv128, bits_inv64]
    rw [EReal.coe_mul]
    split_ifs <;> rfl
  · have hb : (k.val - 64) * l.val < 2 ^ 31 :=
      lt_of_lt_of_le (Nat.mul_lt_mul'' (show k.val - 64 < 128 by omega) l.isLt) (by norm_num)
    simp only [h, if_false]
    rw [lane_word k.val (by omega) k.isLt, WordCmp.muli_ofNat, angle_word _ hb, bits_neg_inv64, EReal.coe_mul]
    rfl

end Cert.Proof

end
-- ==== Proof.Block.lean ====
module
public import proofs.«01_k».proof.Proof.Gen.KernelIdeal.Skeleton
public import proofs.«01_k».proof.Proof.Finite
public import proofs.«01_k».proof.Proof.Model
public import proofs.«01_k».proof.Proof.Tables
public import Idealize.ShloMosaic.Lib.Pointwise
public import Idealize.ShloMosaic.Lib.Routing.Words
public import Idealize.ShloMosaic.Lib.WordCmp

/-! # What one grid point computes, entry by entry

A grid point holds two batch entries. Row `r` of a block is the pair `(r / 196, r % 196)` of a
batch entry and a place `14 a + c`. Every entry is stated as the image of a real number. -/

@[expose] public section
set_option maxRecDepth 16384
noncomputable section
namespace Cert.Proof
open Idealize.ShloMosaic Cert.KernelIdeal Cert.KernelIdeal.Gen

/-- The bit that marks the places `a = c`. -/
theorem pay2_apply (i : Fin 196) :
    k0_pay2 (ix3 0 i 0) = BitVec.ofBool (decide (i.val % 15 = 0)) := by
  pointwise [k0_pay2]
  have h15 : Scalar.select (Scalar.cmpi CmpIPredicate.eq 15#32 0#32) 1#32 15#32 = 15#32 := by
    decide
  have hs : Scalar.cmpi CmpIPredicate.slt 15#32 0#32 = BitVec.ofBool (decide False) := by decide
  rw [h15, hs]
  simp (disch := omega) only [Routing.remsi_word, hlo_ix]
  congr 2
  have h : i.val % 15 % 4294967296 = i.val % 15 := by omega
  simp [h]

/-- A choice by a decided proposition between two images of reals. -/
theorem select_coe (p : Prop) [Decidable p] (x y : ℝ) :
    Scalar.select (BitVec.ofBool (decide p)) (x : EReal) (y : EReal)
      = ((if p then x else y : ℝ) : EReal) := by
  by_cases h : p <;> simp [h, Scalar.select]

theorem pay3_apply (i : Fin 196) (l : Fin 128) :
    (k0_pay3 (F := Ideal) (ix3 0 i l) : EReal) = (pulse l : EReal) := by
  pointwise [k0_pay3]
  simp (disch := omega) only [hlo_ix]
  unfold pulse
  split <;> simp

/-- One row of the normalised product. -/
theorem pay4_apply (v0 v1 : Vec Ideal S2x196x128 .f32) (a b : ℕ → ℕ → Fin 128 → ℝ)
    (h0 : ∀ (p : Fin 2) (i : Fin 196) (l : Fin 128), (v0 (ix3 p i l) : EReal) = (a p i l : EReal))
    (h1 : ∀ (p : Fin 2) (i : Fin 196) (l : Fin 128), (v1 (ix3 p i l) : EReal) = (b p i l : EReal))
    (hs : ∀ p i, ∑ l, zrow i (a p i) (b p i) l ≠ 0)
    (r : Fin 392) (l : Fin 128) :
    (k0_pay4 (F := Ideal) v0 v1 (ix2 r l) : EReal)
      = (nrm (zrow (r % 196) (a (r / 196) (r % 196)) (b (r / 196) (r % 196))) l : EReal) := by
  have h3 : ∀ (i : Fin 196) (l : Fin 128),
      (Scalar.select (IntOp.cmpi CmpIPredicate.eq (BitVec.ofNat 32 ↑l) 0#32) 1 0 : EReal)
        = (pulse l : EReal) := by
    intro i l
    simp (disch := omega) only [hlo_ix]
    unfold pulse
    split <;> simp
  pointwise [k0_pay4, k0_pay3]
  simp only [pay2_apply]
  simp only [h0, h1, h3 0, ← EReal.coe_mul, select_coe]

  simp only [coe_sum]
  have hs' := hs (r / 196) (r % 196)
  unfold zrow at hs'
  rw [one_div_real _ hs', ← EReal.coe_mul]
  congr 1
  simp only [nrm, zrow]
  ring

end Cert.Proof
-- ==== Proof.BlockCorr.lean ====
module
public import proofs.«01_k».proof.Proof.Block

/-! # The correlations of one grid point, entry by entry -/

@[expose] public section
set_option maxRecDepth 16384
noncomputable section
namespace Cert.Proof
open Idealize.ShloMosaic Cert.KernelIdeal Cert.KernelIdeal.Gen

/-- Row `i` of the padded rows: place `16 b + s` holds row `14 b + s`, or nothing where there is
no such place or the place is the one the entry is compared with. -/
def padded (X : ℕ → Fin 128 → ℝ) (i : ℕ) (n : Fin 128) : ℝ := ∑ j : Fin 392, PP i j * X j n

theorem padded_eq (X : ℕ → Fin 128 → ℝ) (i : ℕ) (hi : i < 448) (n : Fin 128) :
    padded X i n = if i % 16 < 14 ∧ i % 16 ≠ i / 16 % 14 then X (i / 16 * 14 + i % 16) n else 0 := by
  unfold padded
  by_cases h : i % 16 < 14 ∧ i % 16 ≠ i / 16 % 14
  · rw [if_pos h, Finset.sum_eq_single (⟨i / 16 * 14 + i % 16, by omega⟩ : Fin 392)]
    · unfold PP
      rw [if_pos ⟨⟨by simp only; omega, by simp only; omega⟩, h.2⟩, one_mul]
    · intro j _ hj
      unfold PP
      rw [if_neg, zero_mul]
      intro hp
      exact hj (Fin.ext (by simp only; omega))
    · intro hm
      exact absurd (Finset.mem_univ _) hm
  · rw [if_neg h]
    refine Finset.sum_eq_zero fun j _ => ?_
    unfold PP
    rw [if_neg, zero_mul]
    rintro ⟨⟨h1, h2⟩, h3⟩
    exact h ⟨by omega, h3⟩

theorem corr_zero_left (v : Fin 128 → ℝ) (l : Fin 128) : corr (fun _ => 0) v l = 0 := by
  simp [corr]

theorem corr_zero_right (u : Fin 128 → ℝ) (l : Fin 128) : corr u (fun _ => 0) l = 0 := by
  simp [corr]

/-- Every product of the packed spectra, brought back to lags. -/
theorem pay5_apply (x : FVec Ideal S392x128 .f32) (pp : Vec Ideal S448x392 .f32)
    (fp gp : Vec Ideal S128x128 .f32) (X : ℕ → Fin 128 → ℝ)
    (hx : ∀ (r : Fin 392) (l : Fin 128), (x (ix2 r l) : EReal) = (X r l : EReal))
    (hpp : ∀ (i : Fin 448) (j : Fin 392), (pp (ix2 i j) : EReal) = (PP i j : EReal))
    (hfp : ∀ n k : Fin 128, (fp (ix2 n k) : EReal) = (FP n k : EReal))
    (hgp : ∀ k l : Fin 128, (gp (ix2 k l) : EReal) = (GP k l : EReal))
    (r : Fin 7168) (l : Fin 128) :
    (k0_pay5 (F := Ideal) x pp fp gp (ix2 r l) : EReal)
      = (corr (padded X (r / 256 * 16 + r % 16)) (padded X (r / 256 * 16 + r / 16 % 16)) l
          : EReal) := by
  pointwise [k0_pay5]
  simp (disch := omega) only [hx, hpp, hfp, hgp, hlo_ix, ← EReal.coe_mul, coe_sum,
    ← EReal.coe_zero]
  have hsp : ∀ i k, ∑ n : Fin 128, (∑ j : Fin 392, PP i j * X j n) * FP n k
      = spec (padded X i) k := fun _ _ => rfl
  simp only [hsp]
  rw [← packed_inverse, Fin.sum_univ_two_halves 64 64 rfl, EReal.coe_add, ← coe_sum, ← coe_sum]
  refine congrArg₂ (· + ·) ?_ ?_
  · refine Finset.sum_congr rfl fun k _ => ?_
    have h1 : k.val ≤ 64 := by omega
    have h2 : k.val < 64 := by omega
    have h3 : ¬ k.val = 64 := by omega
    unfold packed turned
    simp only [h1, h2, h3, if_true, or_false]
    by_cases h : k.val = 0
    · simp only [h, if_true, ← EReal.coe_mul, ← EReal.coe_add]
    · simp only [h, if_false, ← EReal.coe_mul, ← EReal.coe_add, Nat.add_comm 64]
  · refine Finset.sum_congr rfl fun k _ => ?_
    have h2 : ¬ 64 + k.val < 64 := by omega
    have h3 : ¬ 64 + k.val = 0 := by omega
    have h4 : 64 + k.val ≤ 64 ↔ k.val = 0 := by omega
    have h5 : 64 + k.val = 64 ↔ k.val = 0 := by omega
    have h6 : 64 + k.val - 64 = k.val := by omega
    unfold packed turned
    simp only [h2, h3, h4, h5, h6, if_false, false_or]
    by_cases h : k.val = 0
    · simp only [h, if_true, ← EReal.coe_mul, ← EReal.coe_add]
    · simp only [h, if_false, ← EReal.coe_mul, ← EReal.coe_add, ← EReal.coe_sub]

theorem pay6_apply (v : FVec Ideal S7168x128 .f32) (mk : Vec Ideal S7168x128 .f32)
    (X : ℕ → Fin 128 → ℝ)
    (hv : ∀ (r : Fin 7168) (l : Fin 128), (v (ix2 r l) : EReal)
      = (corr (padded X (r / 256 * 16 + r % 16)) (padded X (r / 256 * 16 + r / 16 % 16)) l : EReal))
    (hmk : ∀ (r : Fin 7168) (l : Fin 128), (mk (ix2 r l) : EReal) = (MK r : EReal))
    (b : Fin 28) (s : Fin 256) (l : Fin 128) :
    (k0_pay6 (F := Ideal) v mk (ix3 b s l) : EReal) = (entry X b s l : EReal) := by
  have hb := b.isLt
  have hs := s.isLt
  pointwise [k0_pay6]
  simp only [hv, hmk, ← EReal.coe_add]
  congr 1
  have e1 : (b.val * 256 + s.val) / 256 = b.val := by omega
  have e2 : (b.val * 256 + s.val) % 16 = s.val % 16 := by omega
  have e3 : (b.val * 256 + s.val) / 16 % 16 = s.val / 16 := by omega
  have e4 : (b.val * 256 + s.val) / 256 % 14 = b.val % 14 := by omega
  unfold MK entry
  simp only [e1, e2, e3]
  have p1 : (b.val * 16 + s.val % 16) % 16 = s.val % 16 := by omega
  have p2 : (b.val * 16 + s.val % 16) / 16 = b.val := by omega
  have p3 : (b.val * 16 + s.val / 16) % 16 = s.val / 16 := by omega
  have p4 : (b.val * 16 + s.val / 16) / 16 = b.val := by omega
  have q1 : padded X (b.val * 16 + s.val % 16)
      = fun n => if s.val % 16 < 14 ∧ s.val % 16 ≠ b.val % 14 then X (b * 14 + s % 16) n else 0 :=
    funext fun n => by rw [padded_eq X _ (by omega) n, p1, p2]
  have q2 : padded X (b.val * 16 + s.val / 16)
      = fun n => if s.val / 16 < 14 ∧ s.val / 16 ≠ b.val % 14 then X (b * 14 + s / 16) n else 0 :=
    funext fun n => by rw [padded_eq X _ (by omega) n, p3, p4]
  rw [q1, q2]
  by_cases h : ((s.val / 16 = b.val % 14 ∨ s.val % 16 = b.val % 14) ∨ 14 ≤ s.val / 16)
      ∨ 14 ≤ s.val % 16
  · rw [if_pos h, if_pos h]
    by_cases h1 : s.val % 16 < 14 ∧ s.val % 16 ≠ b.val % 14
    · have h2 : ¬ (s.val / 16 < 14 ∧ s.val / 16 ≠ b.val % 14) := by omega
      simp only [if_neg h2, corr_zero_right, zero_add]
    · simp only [if_neg h1, corr_zero_left, zero_add]
  · rw [if_neg h, if_neg h, add_zero]
    have h1 : s.val % 16 < 14 ∧ s.val % 16 ≠ b.val % 14 := by omega
    have h2 : s.val / 16 < 14 ∧ s.val / 16 ≠ b.val % 14 := by omega
    simp only [if_pos h1, if_pos h2]

theorem pay10_apply (A B : Vec Ideal S7168x128 .f32) (px : Vec Ideal S392x512 .f32)
    (X : ℕ → Fin 128 → ℝ)
    (h6 : ∀ (b : Fin 28) (s : Fin 256) (l : Fin 128),
      (k0_pay6 (F := Ideal) A B (ix3 b s l) : EReal) = (entry X b s l : EReal))
    (hpx : ∀ (i : Fin 392) (j : Fin 512), (px (ix2 i j) : EReal) = (PX i j : EReal))
    (r : Fin 392) (l : Fin 128) :
    (k0_pay10 (F := Ideal) (k0_pay6 A B) (k0_pay7 A B) (k0_pay8 A B) (k0_pay9 A B) px (ix2 r l)
      : EReal) = (through X r l : EReal) := by
  have hr := r.isLt
  pointwise [k0_pay10, k0_pay7, k0_pay8, k0_pay9]
  simp only [h6, hpx, ← EReal.coe_mul, coe_sum, ← EReal.coe_add]
  congr 1
  let P : ℕ → ℕ → ℝ := fun q s => ∏ k ∈ Finset.range 14, entry X (q * 14 + k) s l
  trans (∑ i : Fin 256, PX r i * P 0 i + ∑ i : Fin 256, PX r (256 + i) * P 1 i)
  · refine congrArg₂ (· + ·) ?_ ?_
    · refine Finset.sum_congr rfl fun i _ => ?_
      simp only [P, Finset.prod_range_succ, Finset.prod_range_zero, one_mul]
      rfl
    · refine Finset.sum_congr rfl fun i _ => ?_
      simp only [P, Finset.prod_range_succ, Finset.prod_range_zero, one_mul]
      rfl
  · have pick : ∀ q : ℕ, q < 2 → ∑ i : Fin 256, PX r (q * 256 + i) * P q i
        = if r.val / 196 = q then P q (r / 14 % 14 * 16 + r % 14) else 0 := by
      intro q hq
      by_cases h : r.val / 196 = q
      · rw [if_pos h, Finset.sum_eq_single (⟨r.val / 14 % 14 * 16 + r.val % 14, by omega⟩ : Fin 256)]
        · unfold PX
          rw [if_pos (by simp only; omega), one_mul]
        · intro j _ hj
          unfold PX
          rw [if_neg, zero_mul]
          intro hp
          exact hj (Fin.ext (by simp only; omega))
        · intro hm
          exact absurd (Finset.mem_univ _) hm
      · rw [if_neg h]
        refine Finset.sum_eq_zero fun j _ => ?_
        unfold PX
        rw [if_neg, zero_mul]
        omega
    have p0 := pick 0 (by omega)
    have p1 := pick 1 (by omega)
    simp only [zero_mul, zero_add, one_mul] at p0 p1
    rw [p0, p1]
    by_cases h : r.val / 196 = 0
    · rw [if_pos h, if_neg (by omega), add_zero]
      simp only [P, through, h]
    · have h' : r.val / 196 = 1 := by omega
      rw [if_neg h, if_pos h', zero_add]
      simp only [P, through, h']

/-- The first result of a block: the products, normalised. -/
theorem pay11_apply (v90 : FVec Ideal S28x256x128 .f32) (v131 v142 v144 : FVec Ideal S256x128 .f32)
    (px : Vec Ideal S392x512 .f32) (M : ℕ → Fin 128 → ℝ)
    (hM : ∀ (r : Fin 392) (l : Fin 128),
      (k0_pay10 (F := Ideal) v90 v131 v142 v144 px (ix2 r l) : EReal) = (M r l : EReal))
    (hs : ∀ r, r < 392 → ∑ l, M r l ≠ 0) (p : Fin 2) (i : Fin 196) (l : Fin 128) :
    (k0_pay11 (F := Ideal) v90 v131 v142 v144 px (ix3 p i l) : EReal)
      = (nrm (M (p * 196 + i)) l : EReal) := by
  have hp := p.isLt
  have hi := i.isLt
  pointwise [k0_pay11]
  simp only [hM, coe_sum]
  rw [one_div_real _ (hs _ (by omega)), ← EReal.coe_mul]
  congr 1
  simp only [nrm]
  ring

/-- The three digits of a row. -/
theorem place (p a c : ℕ) (ha : a < 14) (hc : c < 14) : (p * 196 + a * 14 + c) / 196 = p
    ∧ (p * 196 + a * 14 + c) / 14 % 14 = a ∧ (p * 196 + a * 14 + c) % 14 = c := by
  have h : (p * 196 + a * 14 + c) / 14 = p * 14 + a := by omega
  refine ⟨by omega, by omega, by omega⟩

theorem back_eq (X : ℕ → Fin 128 → ℝ) (r : ℕ) (hr : r < 392) (l : Fin 128) :
    ∑ n : Fin 128, (∑ j : Fin 392, PT r j * X j n) * PR n l = back X r l := by
  have h1 : ∀ n : Fin 128, ∑ j : Fin 392, PT r j * X j n
      = X (r / 196 * 196 + r % 14 * 14 + r / 14 % 14) n := by
    intro n
    have dd : ∀ q : ℕ, q / 14 / 14 = q / 196 := fun q => Nat.div_div_eq_div_mul q 14 14
    have k1 := dd r
    rw [Finset.sum_eq_single (⟨r / 196 * 196 + r % 14 * 14 + r / 14 % 14, by omega⟩ : Fin 392)]
    · unfold PT
      have k2 := place (r / 196) (r % 14) (r / 14 % 14) (by omega) (by omega)
      rw [if_pos ⟨⟨k2.1.symm, k2.2.1.symm⟩, k2.2.2.symm⟩, one_mul]
    · intro j _ hj
      unfold PT
      rw [if_neg, zero_mul]
      intro hp
      have k2 := dd j
      exact hj (Fin.ext (by simp only; omega))
    · intro hm
      exact absurd (Finset.mem_univ _) hm
  simp only [h1]
  rw [Finset.sum_eq_single (⟨(128 - l.val) % 128, by omega⟩ : Fin 128)]
  · unfold PR back
    rw [if_pos (by simp only; omega), mul_one]
  · intro j _ hj
    unfold PR
    rw [if_neg, mul_zero]
    intro hp
    exact hj (Fin.ext (by simp only; omega))
  · intro hm
    exact absurd (Finset.mem_univ _) hm

/-- The second result of a block. -/
theorem pay1_apply (x m : FVec Ideal S392x128 .f32) (pt : Vec Ideal S392x392 .f32)
    (pr : Vec Ideal S128x128 .f32) (X M : ℕ → Fin 128 → ℝ)
    (hx : ∀ (r : Fin 392) (l : Fin 128), (x (ix2 r l) : EReal) = (X r l : EReal))
    (hm : ∀ (r : Fin 392) (l : Fin 128), (m (ix2 r l) : EReal) = (M r l : EReal))
    (hpt : ∀ i j : Fin 392, (pt (ix2 i j) : EReal) = (PT i j : EReal))
    (hpr : ∀ i j : Fin 128, (pr (ix2 i j) : EReal) = (PR i j : EReal))
    (hs : ∀ p i, p < 2 → i < 196 → ∑ l, urow X M (p * 196 + i) i l ≠ 0)
    (p : Fin 2) (i : Fin 196) (l : Fin 128) :
    (k0_pay1 (F := Ideal) k0_pay2 k0_pay3 x m (k0_pay12 x pt) (k0_pay13 pr)
        (constant S392x128 .f32 0x00000000#32) (ix3 p i l) : EReal)
      = (nrm (urow X M (p * 196 + i) i) l : EReal) := by
  have hp := p.isLt
  have hi := i.isLt
  pointwise [k0_pay1, k0_pay12, k0_pay13]
  simp only [hx, hm, hpt, hpr, pay2_apply, pay3_apply, ← EReal.coe_mul, coe_sum]
  simp only [back_eq X _ (show p.val * 196 + i.val < 392 by omega), ← EReal.coe_mul, select_coe,
    coe_sum]
  have h := hs p i (by omega) (by omega)
  unfold urow at h
  rw [one_div_real _ h, ← EReal.coe_mul]
  congr 1
  simp only [nrm, urow]
  ring

end Cert.Proof
-- ==== Proof.Arrays.lean ====
module
public import proofs.«01_k».proof.Proof.Gen.KernelIdeal.Frame
public import proofs.«01_k».proof.Proof.BlockCorr

/-! # The two result arrays of the kernel, entry by entry -/

@[expose] public section
set_option maxRecDepth 16384
noncomputable section
namespace Cert.Proof
open Idealize.ShloMosaic Idealize.ShloMosaic.TcCoe Idealize.SL.Sem Cert.KernelIdeal Cert.KernelIdeal.Gen

/-- What a grid point is handed: two blocks of real numbers and the seven tables. -/
structure Handed (x0 x1 : Vec Ideal S2x196x128 .f32) (x2 x3 : Vec Ideal S128x128 .f32)
    (x4 : Vec Ideal S392x392 .f32) (x5 : Vec Ideal S128x128 .f32) (x6 : Vec Ideal S448x392 .f32)
    (x7 : Vec Ideal S392x512 .f32) (x8 : Vec Ideal S7168x128 .f32)
    (a b : ℕ → ℕ → Fin 128 → ℝ) : Prop where
  fst : ∀ (p : Fin 2) (i : Fin 196) (l : Fin 128), (x0 (ix3 p i l) : EReal) = (a p i l : EReal)
  snd : ∀ (p : Fin 2) (i : Fin 196) (l : Fin 128), (x1 (ix3 p i l) : EReal) = (b p i l : EReal)
  fp : ∀ n k : Fin 128, (x2 (ix2 n k) : EReal) = (FP n k : EReal)
  gp : ∀ n k : Fin 128, (x3 (ix2 n k) : EReal) = (GP n k : EReal)
  pt : ∀ i j : Fin 392, (x4 (ix2 i j) : EReal) = (PT i j : EReal)
  pr : ∀ i j : Fin 128, (x5 (ix2 i j) : EReal) = (PR i j : EReal)
  pp : ∀ (i : Fin 448) (j : Fin 392), (x6 (ix2 i j) : EReal) = (PP i j : EReal)
  px : ∀ (i : Fin 392) (j : Fin 512), (x7 (ix2 i j) : EReal) = (PX i j : EReal)
  ones : ∀ (i : Fin 7168) (j : Fin 128), (x8 (ix2 i j) : EReal) = (MK i : EReal)

section
variable {x0 x1 : Vec Ideal S2x196x128 .f32} {x2 x3 : Vec Ideal S128x128 .f32}
  {x4 : Vec Ideal S392x392 .f32} {x5 : Vec Ideal S128x128 .f32} {x6 : Vec Ideal S448x392 .f32}
  {x7 : Vec Ideal S392x512 .f32} {x8 : Vec Ideal S7168x128 .f32} {a b : ℕ → ℕ → Fin 128 → ℝ}

theorem zero3 : (![0, 0, 0] : Fin 3 → Nat) = fun _ => 0 := by funext i; fin_cases i <;> rfl
theorem zero2 : (![0, 0] : Fin 2 → Nat) = fun _ => 0 := by funext i; fin_cases i <;> rfl

theorem rows_apply (H : Handed x0 x1 x2 x3 x4 x5 x6 x7 x8 a b)
    (hs : ∀ p i, ∑ l, zrow i (a p i) (b p i) l ≠ 0) (r : Fin 392) (l : Fin 128) :
    (k0_pay14 x0 x1 x2 x3 x4 x5 x6 x7 x8 (ix2 r l) : EReal)
      = (start a b (r / 196) (r % 196) l : EReal) := by
  unfold k0_pay14
  rw [View.ld_unit_zero zero3, View.ld_unit_zero zero3]
  exact pay4_apply x0 x1 a b H.fst H.snd hs r l

theorem entry_apply (H : Handed x0 x1 x2 x3 x4 x5 x6 x7 x8 a b)
    (hs : ∀ p i, ∑ l, zrow i (a p i) (b p i) l ≠ 0) (k : Fin 28) (s : Fin 256) (l : Fin 128) :
    (k0_pay6 (k0_pay15 x0 x1 x2 x3 x4 x5 x6 x7 x8) x8 (ix3 k s l) : EReal)
      = (entry (fun r => start a b (r / 196) (r % 196)) k s l : EReal) := by
  refine pay6_apply _ _ _ (fun r l => ?_) H.ones k s l
  unfold k0_pay15
  rw [View.ld_unit_zero zero2, View.ld_unit_zero zero2, View.ld_unit_zero zero2]
  exact pay5_apply _ _ _ _ _ (rows_apply H hs) H.pp H.fp H.gp r l

theorem through_apply (H : Handed x0 x1 x2 x3 x4 x5 x6 x7 x8 a b)
    (hs : ∀ p i, ∑ l, zrow i (a p i) (b p i) l ≠ 0) (r : Fin 392) (l : Fin 128) :
    (k0_pay10 (k0_pay16 x0 x1 x2 x3 x4 x5 x6 x7 x8) (k0_pay17 x0 x1 x2 x3 x4 x5 x6 x7 x8)
        (k0_pay18 x0 x1 x2 x3 x4 x5 x6 x7 x8) (k0_pay19 x0 x1 x2 x3 x4 x5 x6 x7 x8) x7 (ix2 r l)
      : EReal) = (through (fun r => start a b (r / 196) (r % 196)) r l : EReal) := by
  unfold k0_pay16 k0_pay17 k0_pay18 k0_pay19
  rw [View.ld_unit_zero zero2]
  exact pay10_apply _ _ _ _ (entry_apply H hs) H.px r l

end

variable (m : (ℓ : Loc nD τ sig) → Buf (Elt Ideal) ℓ) (c : Dev nD)

/-- The arguments are the real numbers `a` and `b`, and no row sum that is divided by is zero. -/
structure Good (a b : ℕ → ℕ → Fin 128 → ℝ) : Prop where
  fst : ∀ (p : Fin 16) (i : Fin 196) (l : Fin 128),
    (m ((c : Thread nD τ).loc main_arg0) (ix3 p i l) : EReal) = (a p i l : EReal)
  snd : ∀ (p : Fin 16) (i : Fin 196) (l : Fin 128),
    (m ((c : Thread nD τ).loc main_arg1) (ix3 p i l) : EReal) = (b p i l : EReal)
  start_ne : ∀ p i, ∑ l, zrow i (a p i) (b p i) l ≠ 0
  through_ne : ∀ t r, r < 392 → ∑ l, through (rows a b t) r l ≠ 0
  urow_ne : ∀ t p i, p < 2 → i < 196 →
    ∑ l, urow (rows a b t) (through (rows a b t)) (p * 196 + i) i l ≠ 0

variable {a b : ℕ → ℕ → Fin 128 → ℝ}

theorem index0 : ∀ t : Fin cfg0.N, win0_0.index t = ![t.val, 0, 0] :=
  (by decide +kernel : ∀ t : Fin grid0.N, _)
theorem index1 : ∀ t : Fin cfg0.N, win0_1.index t = ![t.val, 0, 0] :=
  (by decide +kernel : ∀ t : Fin grid0.N, _)
theorem index9 : ∀ t : Fin cfg0.N, win0_9.index t = ![t.val, 0, 0] :=
  (by decide +kernel : ∀ t : Fin grid0.N, _)
theorem index10 : ∀ t : Fin cfg0.N, win0_10.index t = ![t.val, 0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)

theorem block0 (t : Fin cfg0.N) (p : Fin 2) (i : Fin 196) (l : Fin 128) :
    iblk m c 0 t (ix3 p i l) = V m c main_arg0 (ix3 ⟨2 * t.val + p.val, by have : t.val < 8 := t.isLt; omega⟩ i l) := by
  blk_simp [iblk]
  refine congrArg _ ?_
  blk_ext [index0]

theorem block1 (t : Fin cfg0.N) (p : Fin 2) (i : Fin 196) (l : Fin 128) :
    iblk m c 1 t (ix3 p i l) = V m c main_arg1 (ix3 ⟨2 * t.val + p.val, by have : t.val < 8 := t.isLt; omega⟩ i l) := by
  blk_simp [iblk]
  refine congrArg _ ?_
  blk_ext [index1]

theorem block2 (t : Fin cfg0.N) (i : Fin 128) (j : Fin 128) :
    iblk m c 2 t (ix2 i j) = V m c main_v20 (ix2 i j) := by
  blk_simp [iblk]
  refine congrArg _ ?_
  blk_ext [index2]

theorem block3 (t : Fin cfg0.N) (i : Fin 128) (j : Fin 128) :
    iblk m c 3 t (ix2 i j) = V m c main_v47 (ix2 i j) := by
  blk_simp [iblk]
  refine congrArg _ ?_
  blk_ext [index3]

theorem block4 (t : Fin cfg0.N) (i : Fin 392) (j : Fin 392) :
    iblk m c 4 t (ix2 i j) = V m c main_v71 (ix2 i j) := by
  blk_simp [iblk]
  refine congrArg _ ?_
  blk_ext [index4]

theorem block5 (t : Fin cfg0.N) (i : Fin 128) (j : Fin 128) :
    iblk m c 5 t (ix2 i j) = V m c main_v79 (ix2 i j) := by
  blk_simp [iblk]
  refine congrArg _ ?_
  blk_ext [index5]

theorem block6 (t : Fin cfg0.N) (i : Fin 448) (j : Fin 392) :
    iblk m c 6 t (ix2 i j) = V m c main_v101 (ix2 i j) := by
  blk_simp [iblk]
  refine congrArg _ ?_
  blk_ext [index6]

theorem block7 (t : Fin cfg0.N) (i : Fin 392) (j : Fin 512) :
    iblk m c 7 t (ix2 i j) = V m c main_v147 (ix2 i j) := by
  blk_simp [iblk]
  refine congrArg _ ?_
  blk_ext [index7]

theorem block8 (t : Fin cfg0.N) (i : Fin 7168) (j : Fin 128) :
    iblk m c 8 t (ix2 i j) = V m c main_v123 (ix2 i j) := by
  blk_simp [iblk]
  refine congrArg _ ?_
  blk_ext [index8]

theorem handed (h : Good m c a b) (t : Fin cfg0.N) :
    Handed (iblk m c 0 t) (iblk m c 1 t) (iblk m c 2 t) (iblk m c 3 t) (iblk m c 4 t) (iblk m c 5 t)
      (iblk m c 6 t) (iblk m c 7 t) (iblk m c 8 t) (fun p => a (2 * t + p)) (fun p => b (2 * t + p)) where
  fst p i l := (block0 m c t p i l).trans ((congrFun (V_main_arg0 m c) _).trans (h.fst _ i l))
  snd p i l := (block1 m c t p i l).trans ((congrFun (V_main_arg1 m c) _).trans (h.snd _ i l))
  fp i j := (block2 m c t i j).trans (table_fp m c i j)
  gp i j := (block3 m c t i j).trans (table_gp m c i j)
  pt i j := (block4 m c t i j).trans (table_pt m c i j)
  pr i j := (block5 m c t i j).trans (table_pr m c i j)
  pp i j := (block6 m c t i j).trans (table_pp m c i j)
  px i j := (block7 m c t i j).trans (table_px m c i j)
  ones i j := (block8 m c t i j).trans (table_mk m c i j)

theorem rows_eq (a b : ℕ → ℕ → Fin 128 → ℝ) (t : ℕ) :
    (fun r => start (fun p => a (2 * t + p)) (fun p => b (2 * t + p)) (r / 196) (r % 196))
      = rows a b t := rfl

theorem through_at (h : Good m c a b) (t : Fin cfg0.N) (r : Fin 392) (l : Fin 128) :
    (k0_pay10 (k0_pay16 (iblk m c 0 t) (iblk m c 1 t) (iblk m c 2 t) (iblk m c 3 t) (iblk m c 4 t)
          (iblk m c 5 t) (iblk m c 6 t) (iblk m c 7 t) (iblk m c 8 t))
        (k0_pay17 (iblk m c 0 t) (iblk m c 1 t) (iblk m c 2 t) (iblk m c 3 t) (iblk m c 4 t)
          (iblk m c 5 t) (iblk m c 6 t) (iblk m c 7 t) (iblk m c 8 t))
        (k0_pay18 (iblk m c 0 t) (iblk m c 1 t) (iblk m c 2 t) (iblk m c 3 t) (iblk m c 4 t)
          (iblk m c 5 t) (iblk m c 6 t) (iblk m c 7 t) (iblk m c 8 t))
        (k0_pay19 (iblk m c 0 t) (iblk m c 1 t) (iblk m c 2 t) (iblk m c 3 t) (iblk m c 4 t)
          (iblk m c 5 t) (iblk m c 6 t) (iblk m c 7 t) (iblk m c 8 t)) (iblk m c 7 t) (ix2 r l)
      : EReal) = (through (rows a b t) r l : EReal) := by
  have hm := through_apply (handed m c h t) (fun p i => h.start_ne (2 * t.val + p) i) r l
  rw [rows_eq] at hm
  exact hm

theorem point10 (h : Good m c a b) (t : Fin cfg0.N) (p : Fin 2) (i : Fin 196) (l : Fin 128) :
    (k0_pay11 (k0_pay16 (iblk m c 0 t) (iblk m c 1 t) (iblk m c 2 t) (iblk m c 3 t) (iblk m c 4 t)
          (iblk m c 5 t) (iblk m c 6 t) (iblk m c 7 t) (iblk m c 8 t))
        (k0_pay17 (iblk m c 0 t) (iblk m c 1 t) (iblk m c 2 t) (iblk m c 3 t) (iblk m c 4 t)
          (iblk m c 5 t) (iblk m c 6 t) (iblk m c 7 t) (iblk m c 8 t))
        (k0_pay18 (iblk m c 0 t) (iblk m c 1 t) (iblk m c 2 t) (iblk m c 3 t) (iblk m c 4 t)
          (iblk m c 5 t) (iblk m c 6 t) (iblk m c 7 t) (iblk m c 8 t))
        (k0_pay19 (iblk m c 0 t) (iblk m c 1 t) (iblk m c 2 t) (iblk m c 3 t) (iblk m c 4 t)
          (iblk m c 5 t) (iblk m c 6 t) (iblk m c 7 t) (iblk m c 8 t)) (iblk m c 7 t) (ix3 p i l)
      : EReal) = (nrm (through (rows a b t) (p * 196 + i)) l : EReal) :=
  pay11_apply _ _ _ _ _ _ (through_at m c h t) (h.through_ne t) p i l

theorem point9 (h : Good m c a b) (t : Fin cfg0.N) (p : Fin 2) (i : Fin 196) (l : Fin 128) :
    (k0_pay1 k0_pay2 k0_pay3
        (k0_pay14 (iblk m c 0 t) (iblk m c 1 t) (iblk m c 2 t) (iblk m c 3 t) (iblk m c 4 t)
          (iblk m c 5 t) (iblk m c 6 t) (iblk m c 7 t) (iblk m c 8 t))
        (k0_pay10 (k0_pay16 (iblk m c 0 t) (iblk m c 1 t) (iblk m c 2 t) (iblk m c 3 t) (iblk m c 4 t)
          (iblk m c 5 t) (iblk m c 6 t) (iblk m c 7 t) (iblk m c 8 t))
        (k0_pay17 (iblk m c 0 t) (iblk m c 1 t) (iblk m c 2 t) (iblk m c 3 t) (iblk m c 4 t)
          (iblk m c 5 t) (iblk m c 6 t) (iblk m c 7 t) (iblk m c 8 t))
        (k0_pay18 (iblk m c 0 t) (iblk m c 1 t) (iblk m c 2 t) (iblk m c 3 t) (iblk m c 4 t)
          (iblk m c 5 t) (iblk m c 6 t) (iblk m c 7 t) (iblk m c 8 t))
        (k0_pay19 (iblk m c 0 t) (iblk m c 1 t) (iblk m c 2 t) (iblk m c 3 t) (iblk m c 4 t)
          (iblk m c 5 t) (iblk m c 6 t) (iblk m c 7 t) (iblk m c 8 t)) (iblk m c 7 t))
        (k0_pay12 (k0_pay14 (iblk m c 0 t) (iblk m c 1 t) (iblk m c 2 t) (iblk m c 3 t) (iblk m c 4 t)
          (iblk m c 5 t) (iblk m c 6 t) (iblk m c 7 t) (iblk m c 8 t)) (iblk m c 4 t))
        (k0_pay13 (iblk m c 5 t)) (constant S392x128 .f32 0x00000000#32) (ix3 p i l)
      : EReal) = (nrm (urow (rows a b t) (through (rows a b t)) (p * 196 + i) i) l : EReal) := by
  have hr : ∀ (r : Fin 392) (l : Fin 128), _ := fun r l =>
    rows_apply (handed m c h t) (fun p i => h.start_ne (2 * t.val + p) i) r l
  exact pay1_apply _ _ _ _ (rows a b t) _ hr (through_at m c h t) (handed m c h t).pt
    (handed m c h t).pr (h.urow_ne t) p i l

end Cert.Proof
-- ==== Proof.Results.lean ====
module
public import proofs.«01_k».proof.Proof.Arrays

/-! # The two result arrays of the kernel after the run -/

@[expose] public section
set_option maxRecDepth 16384
noncomputable section
namespace Cert.Proof
open Idealize.ShloMosaic Idealize.ShloMosaic.TcCoe Idealize.SL.Sem Cert.KernelIdeal Cert.KernelIdeal.Gen

variable (m : (ℓ : Loc nD τ sig) → Buf (Elt Ideal) ℓ) (c : Dev nD) {a b : ℕ → ℕ → Fin 128 → ℝ}

theorem emb10 (t : Fin cfg0.N) (y : S2x196x128.Idx) :
    (win0_10.blk t).view.emb y
      = ix3 ⟨2 * t.val + (y 0).val, by have : t.val < 8 := t.isLt; have : (y 0).val < 2 := (y 0).isLt; omega⟩ (y 1) (y 2) := by
  blk_ext [index10]

theorem emb9 (t : Fin cfg0.N) (y : S2x196x128.Idx) :
    (win0_9.blk t).view.emb y
      = ix3 ⟨2 * t.val + (y 0).val, by have : t.val < 8 := t.isLt; have : (y 0).val < 2 := (y 0).isLt; omega⟩ (y 1) (y 2) := by
  blk_ext [index9]

/-- Result window 10 at the numbers of an index. -/
def value10 (a b : ℕ → ℕ → Fin 128 → ℝ) (p i : ℕ) (l : Fin 128) : ℝ :=
  nrm (through (rows a b (p / 2)) (p % 2 * 196 + i)) l

/-- Result window 10 as an array. -/
def array10 (a b : ℕ → ℕ → Fin 128 → ℝ) (y : S16x196x128.Idx) : EReal :=
  (value10 a b (y 0).val (y 1).val (y 2) : EReal)

theorem array10_at (a b : ℕ → ℕ → Fin 128 → ℝ) (t : ℕ) (p : Fin 2) (h : 2 * t + p.val < 16)
    (i : Fin 196) (l : Fin 128) :
    array10 a b (ix3 ⟨2 * t + p.val, h⟩ i l) = ((nrm (through (rows a b t) (p * 196 + i)) l : ℝ) : EReal) := by
  have h1 : (2 * t + p.val) / 2 = t := by omega
  have h2 : (2 * t + p.val) % 2 = p.val := by omega
  show (value10 a b (2 * t + p.val) i l : EReal) = _
  unfold value10
  rw [h1, h2]

theorem final10 (h : Good m c a b) : (dats m 0 c).arrAt 10 cfg0.N = array10 a b := by
  refine (dats m 0 c).arrAt_eq_of_covers 10 _ (by decide +kernel) fun t hf y => ?_
  blk_simp
  rw [after0_10]
  frame_out
  refine (congrArg _ (eq_ix3 (n0 := 2) (n1 := 196) (n2 := 128) y)).trans ?_
  refine (point10 m c h t (y 0) (y 1) (y 2)).trans ?_
  refine Eq.trans ?_ (congrArg (array10 a b) (emb10 t y)).symm
  exact (array10_at a b t (y 0) _ (y 1) (y 2)).symm

/-- Result window 9 at the numbers of an index. -/
def value9 (a b : ℕ → ℕ → Fin 128 → ℝ) (p i : ℕ) (l : Fin 128) : ℝ :=
  nrm (urow (rows a b (p / 2)) (through (rows a b (p / 2))) (p % 2 * 196 + i) i) l

/-- Result window 9 as an array. -/
def array9 (a b : ℕ → ℕ → Fin 128 → ℝ) (y : S16x196x128.Idx) : EReal :=
  (value9 a b (y 0).val (y 1).val (y 2) : EReal)

theorem array9_at (a b : ℕ → ℕ → Fin 128 → ℝ) (t : ℕ) (p : Fin 2) (h : 2 * t + p.val < 16)
    (i : Fin 196) (l : Fin 128) :
    array9 a b (ix3 ⟨2 * t + p.val, h⟩ i l) = ((nrm (urow (rows a b t) (through (rows a b t)) (p * 196 + i) i) l : ℝ) : EReal) := by
  have h1 : (2 * t + p.val) / 2 = t := by omega
  have h2 : (2 * t + p.val) % 2 = p.val := by omega
  show (value9 a b (2 * t + p.val) i l : EReal) = _
  unfold value9
  rw [h1, h2]

theorem final9 (h : Good m c a b) : (dats m 0 c).arrAt 9 cfg0.N = array9 a b := by
  refine (dats m 0 c).arrAt_eq_of_covers 9 _ (by decide +kernel) fun t hf y => ?_
  blk_simp
  rw [after0_9]
  frame_out
  refine (congrArg _ (eq_ix3 (n0 := 2) (n1 := 196) (n2 := 128) y)).trans ?_
  refine (point9 m c h t (y 0) (y 1) (y 2)).trans ?_
  refine Eq.trans ?_ (congrArg (array9 a b) (emb9 t y)).symm
  exact (array9_at a b t (y 0) _ (y 1) (y 2)).symm

end Cert.Proof
-- ==== Proof.RefStart.lean ====
module
public import proofs.«01_k».proof.Proof.Gen.ReferenceIdeal.Run
public import proofs.«01_k».proof.Proof.Model
public import Idealize.ShloMosaic.Lib.Pointwise
public import Idealize.ShloMosaic.Lib.Routing.Words
public import Idealize.ShloMosaic.Lib.Routing.OpsSet
public import Idealize.ShloMosaic.Lib.Routing.OpsPair
public import Idealize.ShloMosaic.Lib.WordCmp

/-! # The reference's starting messages, entry by entry -/

@[expose] public section
set_option maxRecDepth 16384
noncomputable section
namespace Cert.Proof.Ref
open Idealize.ShloMosaic Idealize.ShloMosaic.TcCoe Idealize.SL.Sem Cert.ReferenceIdeal Cert.ReferenceIdeal.Gen Cert.ReferenceIdeal.Value

variable (V0 : Valuation τ sig (Elt Ideal))

/-- The arguments are the positive real numbers `a` and `b`. -/
structure Args (a b : ℕ → ℕ → Fin 128 → ℝ) : Prop where
  fst : ∀ (p : Fin 16) (i : Fin 196) (l : Fin 128),
    (V0 (Proc.devRef .tc main_arg0) (ix3 p i l) : EReal) = (a p i l : EReal)
  snd : ∀ (p : Fin 16) (i : Fin 196) (l : Fin 128),
    (V0 (Proc.devRef .tc main_arg1) (ix3 p i l) : EReal) = (b p i l : EReal)
  fst_pos : ∀ p i l, 0 < a p i l
  snd_pos : ∀ p i l, 0 < b p i l

variable {V0} {a b : ℕ → ℕ → Fin 128 → ℝ} (H : Args V0 a b)
include H

theorem v10_apply (p : Fin 16) (i : Fin 196) (l : Fin 128) :
    (res_main_v10 V0 (ix3 p i l) : EReal) = (masked i (a p i) l : EReal) := by
  pointwise [res_main_v10, id]
  have e : IntOp.addi (BitVec.ofNat 32 (i.val / 14)) 0#32 = BitVec.ofNat 32 (i.val / 14) := by
    rw [WordCmp.addi_ofNat, Nat.add_zero]
  rw [e, H.fst]
  simp (disch := omega) only [hlo_ix]
  have hi := i.isLt
  have hd : i.val / 14 = i.val % 14 ↔ i.val % 15 = 0 := by omega
  unfold masked pulse
  by_cases h : i.val % 15 = 0
  · rw [if_pos (hd.2 h), if_pos h]
    split <;> simp
  · rw [if_neg (fun h' => h (hd.1 h')), if_neg h]

theorem v15_apply (p : Fin 16) (i : Fin 196) (l : Fin 128) :
    (res_main_v15 V0 (ix3 p i l) : EReal) = ((b p i l * nrm (masked i (a p i)) l : ℝ) : EReal) := by
  pointwise [res_main_v15]
  simp only [v10_apply H, H.snd, coe_sum]
  rw [div_real _ _ (sum_masked_pos H.fst_pos p i).ne', ← EReal.coe_mul]
  rfl

theorem v19_apply (p : Fin 16) (i : Fin 196) (l : Fin 128) :
    (res_main_v19 V0 (ix3 p i l) : EReal) = (start a b p i l : EReal) := by
  pointwise [res_main_v19]
  simp only [v15_apply H, coe_sum]
  rw [div_real _ _ (sum_two_steps_ne H.fst_pos H.snd_pos p i), ← nrm_two_steps H.fst_pos H.snd_pos]
  rfl

omit H

/-- The places of the pairs that are made equal. -/
def pairWord (s : Fin 28) : BitVec 32 := lit0 (S28x1.rowMajor (ix2 s 0))

theorem pairWord_ok : ∀ s : Fin 28, Scalar.select (IntOp.cmpi .slt (pairWord s) 0#32)
      (IntOp.addi (pairWord s) 196#32) (pairWord s) = pairWord s
    ∧ IntOp.cmpi .sge (pairWord s) 0#32 = 1#1 ∧ IntOp.cmpi .sle (pairWord s) 195#32 = 1#1
    ∧ 0 ≤ (pairWord s).toInt ∧ (pairWord s).toInt < 196 := by
  unfold pairWord
  decide +kernel

theorem same_words : ∀ s : Fin 28, lit1 (S28x1.rowMajor (ix2 s 0)) = pairWord s := by
  unfold pairWord
  decide +kernel

variable (V0) in
theorem call2_v5_apply (s : Fin 28) : (res_main_call2_v5 V0 (ix2 s 0) : BitVec 32) = pairWord s := by
  pointwise [res_main_call2_v5, res_main_v20, res_main_c]
  exact (pairWord_ok s).1

/-- A row of the gather of rows. -/
theorem gather_rows {α : Type} (x : S16x196x128.Idx → α) (idx : IVec S28x1 32) (p : Fin 16)
    (s : Fin 28) (l : Fin 128) :
    Host.gather gather_S16x196x128_S28x1_S16x28x128_02_1_n_n_1_1_161128 x idx (ix3 p s l)
      = x (ix3 p ⟨min (idx (ix2 s 0)).toInt.toNat 195, by omega⟩ l) := by
  unfold Host.gather
  congr 1
  funext a
  refine Fin.ext ?_
  show (gather_S16x196x128_S28x1_S16x28x128_02_1_n_n_1_1_161128).start (ix3 p s l) idx a
    + (gather_S16x196x128_S28x1_S16x28x128_02_1_n_n_1_1_161128).batchCoord (ix3 p s l) a
    + (gather_S16x196x128_S28x1_S16x28x128_02_1_n_n_1_1_161128).offCoord (ix3 p s l) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by decide), dif_pos (by decide)]
    show 0 + p.val = p.val
    omega
  · unfold GatherDims.start GatherDims.offCoord
    rw [dif_pos (by decide), dif_neg (by decide)]
    have hs : (gather_S16x196x128_S28x1_S16x28x128_02_1_n_n_1_1_161128).siIdx (ix3 p s l)
        ⟨0, by decide⟩ = (ix2 s 0 : S28x1.Idx) := by
      funext e
      match e with
      | ⟨0, _⟩ => rfl
      | ⟨1, _⟩ => rfl
    exact congrArg (fun w : BitVec 32 => min w.toInt.toNat 195) (congrArg idx hs)
  · unfold GatherDims.start GatherDims.offCoord
    rw [dif_neg (by decide), dif_pos (by decide)]
    show 0 + l.val = l.val
    omega

/-- Setting rows to what they hold changes nothing. -/
theorem scatter_rows {α : Type} (x : S16x196x128.Idx → α) (idx : IVec S28x1 32)
    (upd : S16x28x128.Idx → α)
    (h : ∀ (p : Fin 16) (s : Fin 28) (l : Fin 128) (i : Fin 196),
      (idx (ix2 s 0)).toInt = i.val → upd (ix3 p s l) = x (ix3 p i l)) :
    Host.scatter scatter_S16x196x128_S28x1_S16x28x128_02_1_1_1 (fun _ y => y) x idx upd = x := by
  funext j
  have key : ∀ k, (scatter_S16x196x128_S28x1_S16x28x128_02_1_1_1).resultIdx? k idx = some j
      → upd k = x j := by
    intro k hk
    rw [Routing.resultIdx?_eq_some] at hk
    idx_vars k
    idx_vars j
    have h0 := hk 0
    have h1 := hk 1
    have h2 := hk 2
    unfold ScatterDims.start ScatterDims.window at h0 h1 h2
    rw [dif_neg (by decide), dif_pos (by decide)] at h0 h2
    rw [dif_pos (by decide), dif_neg (by decide)] at h1
    have e0 : (0 : Int) + (k0.val : Int) = j0.val := h0
    have e2 : (0 : Int) + (k2.val : Int) = j2.val := h2
    have hs : (scatter_S16x196x128_S28x1_S16x28x128_02_1_1_1).siIdx (ix3 k0 k1 k2)
        ⟨0, by decide⟩ = (ix2 k1 0 : S28x1.Idx) := by
      funext e
      match e with
      | ⟨0, _⟩ => rfl
      | ⟨1, _⟩ => rfl
    have e1 : (idx (ix2 k1 0)).toInt + 0 = j1.val :=
      (congrArg (fun i => (idx i).toInt + 0) hs.symm).trans h1
    have f0 : k0 = j0 := Fin.ext (by omega)
    have f2 : k2 = j2 := Fin.ext (by omega)
    subst f0 f2
    exact h _ _ _ _ (by omega)
  by_cases hh : ∃ k, (scatter_S16x196x128_S28x1_S16x28x128_02_1_1_1).resultIdx? k idx = some j
  · obtain ⟨k, hk⟩ := hh
    exact Routing.scatter_set_hit _ x idx upd j (x j) key k hk
  · exact Routing.scatter_set_miss _ x idx upd j fun k hk => hh ⟨k, hk⟩

theorem fold_ones {ι : Type} [DecidableEq ι] (s : Finset ι) (f : ι → BitVec 1) (h : ∀ i, f i = 1#1) :
    Finset.fold IntOp.andi (1#1) f s = 1#1 := by
  induction s using Finset.induction_on with
  | empty => rfl
  | insert i s hi ih => rw [Finset.fold_insert hi, ih, h i]; rfl

theorem pair_read {α : Type} (x : S16x196x128.Idx → α) (p : Fin 16) (s : Fin 28) (l : Fin 128)
    (i : Fin 196) (w : BitVec 32) (hw : w = pairWord s) (hi : (pairWord s).toInt = i.val) :
    x (ix3 p ⟨min w.toInt.toNat 195, by omega⟩ l) = x (ix3 p i l) := by
  subst hw
  have : (⟨min (pairWord s).toInt.toNat 195, by omega⟩ : Fin 196) = i := Fin.ext (by simp only; omega)
  rw [this]

variable (V0) in
theorem v36_eq : res_main_v36 V0 = res_main_v19 V0 := by
  refine scatter_rows _ _ _ fun p s l i hi => ?_
  pointwise [res_main_v28, res_main_c] at hi
  replace hi : (pairWord s).toInt = i.val :=
    (congrArg BitVec.toInt (pairWord_ok s).1).symm.trans hi
  pointwise
  rw [fold_ones _ _ fun x => ?_]
  · refine (if_pos rfl : Scalar.select (1#1) _ _ = _).trans ?_
    rw [gather_rows]
    exact pair_read _ p s l i _ (call2_v5_apply V0 s) hi
  · idx_vars x
    obtain rfl : x1 = 0 := Subsingleton.elim _ _
    rw [call2_v5_apply, (pairWord_ok x0).2.1, (pairWord_ok x0).2.2.1]
    rfl

include H in
theorem v41_apply (p : Fin 16) (q c : Fin 14) (l : Fin 128) :
    (res_main_v41 V0 (ix4 p q c l) : EReal) = (start a b p (q * 14 + c) l : EReal) := by
  pointwise [res_main_v41]
  simp only [v36_eq, v19_apply H, coe_sum]
  have h := sum_start H.fst_pos H.snd_pos p (q * 14 + c)
  rw [h, div_real _ _ one_ne_zero, div_one]

end Cert.Proof.Ref
-- ==== Proof.RefCorr.lean ====
module
public import proofs.«01_k».proof.Proof.RefStart

/-! # The reference's correlations and their products, entry by entry -/

@[expose] public section
set_option maxRecDepth 16384
noncomputable section
namespace Cert.Proof.Ref
open Idealize.ShloMosaic Idealize.ShloMosaic.TcCoe Idealize.SL.Sem Cert.ReferenceIdeal Cert.ReferenceIdeal.Gen Cert.ReferenceIdeal.Value

/-- The gather of lanes. -/
theorem gather_lanes {α : Type} (x : S16x14x14x128.Idx → α) (idx : IVec S128x128x1 32) (p : Fin 16)
    (q c : Fin 14) (l n : Fin 128) :
    Host.gather gather_S16x14x14x128_S128x128x1_S16x14x14x128x128_012_3_n_n_3_2_1614141 x idx
        (ix5 p q c l n)
      = x (ix4 p q c ⟨min (idx (ix3 l n 0)).toInt.toNat 127, by omega⟩) := by
  unfold Host.gather
  congr 1
  funext a
  refine Fin.ext ?_
  show (gather_S16x14x14x128_S128x128x1_S16x14x14x128x128_012_3_n_n_3_2_1614141).start
      (ix5 p q c l n) idx a
    + (gather_S16x14x14x128_S128x128x1_S16x14x14x128x128_012_3_n_n_3_2_1614141).batchCoord
      (ix5 p q c l n) a
    + (gather_S16x14x14x128_S128x128x1_S16x14x14x128x128_012_3_n_n_3_2_1614141).offCoord
      (ix5 p q c l n) a = _
  rw [GatherDims.batchCoord_eq_zero _ _ _ List.not_mem_nil, Nat.add_zero]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.offCoord
    rw [dif_neg (by decide), dif_pos (by decide)]
    show 0 + p.val = p.val
    omega
  · unfold GatherDims.start GatherDims.offCoord
    rw [dif_neg (by decide), dif_pos (by decide)]
    show 0 + q.val = q.val
    omega
  · unfold GatherDims.start GatherDims.offCoord
    rw [dif_neg (by decide), dif_pos (by decide)]
    show 0 + c.val = c.val
    omega
  · unfold GatherDims.start GatherDims.offCoord
    rw [dif_pos (by decide), dif_neg (by decide)]
    have hs : (gather_S16x14x14x128_S128x128x1_S16x14x14x128x128_012_3_n_n_3_2_1614141).siIdx
        (ix5 p q c l n) ⟨0, by decide⟩ = (ix3 l n 0 : S128x128x1.Idx) := by
      funext e
      match e with
      | ⟨0, _⟩ => rfl
      | ⟨1, _⟩ => rfl
      | ⟨2, _⟩ => rfl
    exact congrArg (fun w : BitVec 32 => min w.toInt.toNat 127) (congrArg idx hs)

variable {V0 : Valuation τ sig (Elt Ideal)} {a b : ℕ → ℕ → Fin 128 → ℝ}

variable (V0) in
theorem v49_apply (l n : Fin 128) :
    (res_main_v49 V0 (ix2 l n) : BitVec 32) = BitVec.ofNat 32 ((l.val + n.val) % 128) := by
  pointwise [res_main_v49, res_main_call3_v4, res_main_call3_v2, res_main_call3_v0, id]
  have h1 : Scalar.select (IntOp.cmpi CmpIPredicate.eq 128#32 0#32) (1#32) (128#32) = 128#32 := by decide
  have h2 : IntOp.cmpi CmpIPredicate.slt 128#32 0#32 = BitVec.ofBool (decide False) := by decide
  simp only [h1, h2, WordCmp.addi_ofNat]
  simp (disch := omega) only [Routing.remsi_word, hlo_ix]
  refine if_neg ?_
  rintro ⟨h3, -⟩
  exact h3 (by simp)

variable (V0) in
theorem lane_apply (l n : Fin 128) :
    (broadcastInDim S128x128x1 ![0, 1] bcast_S128x128_S128x128x1_0_1
      (select
        (cmpi CmpIPredicate.slt (res_main_v49 V0)
          (broadcastInDim S128x128 ![] bcast_S_S128x128 (constantI S_ 32 0#32)))
        (addi (res_main_v49 V0)
          (broadcastInDim S128x128 ![] bcast_S_S128x128 (constantI S_ 32 128#32)))
        (res_main_v49 V0)) (ix3 l n 0)).toInt = ((l.val + n.val) % 128 : ℕ) := by
  pointwise
  rw [v49_apply]
  simp (disch := omega) only [hlo_ix]
  rw [if_neg (by omega)]
  exact WordCmp.toInt_ofNat_of_lt (by omega)

variable (H : Args V0 a b)
include H

theorem v58_apply (p : Fin 16) (q r c : Fin 14) (l : Fin 128) :
    (res_main_v58 V0 (ix5 p q r c l) : EReal)
      = (corr (start a b p (r * 14 + c)) (start a b p (r * 14 + q)) l : EReal) := by
  pointwise [res_main_v58]
  simp only [gather_lanes, v41_apply H, ← EReal.coe_mul, coe_sum]
  congr 1
  unfold corr
  refine Finset.sum_congr rfl fun n _ => ?_
  rw [mul_comm]
  refine congrArg (fun k => start a b p (r * 14 + c) k * start a b p (r * 14 + q) n) (Fin.ext ?_)
  have h := lane_apply V0 l n
  simp only
  omega

theorem v75_apply (p : Fin 16) (q r c : Fin 14) (l : Fin 128) :
    (res_main_v75 V0 (ix5 p q r c l) : EReal)
      = ((if q.val = r.val ∨ r.val = c.val then 1 else
          corr (start a b p (r * 14 + c)) (start a b p (r * 14 + q)) l : ℝ) : EReal) := by
  pointwise [res_main_v75, res_main_v62, id]
  rw [v58_apply H]
  simp (disch := omega) only [hlo_ix]
  split <;> simp

theorem v163_apply (p : Fin 16) (i : Fin 196) (l : Fin 128) :
    (res_main_v163 V0 (ix3 p i l) : EReal)
      = ((∏ k ∈ Finset.range 14, corr (start a b p (k * 14 + i % 14)) (start a b p (k * 14 + i / 14)) l
        : ℝ) : EReal) := by
  pointwise [res_main_v163]
  simp only [v58_apply H, ← EReal.coe_mul]
  congr 1
  simp only [Finset.prod_range_succ, Finset.prod_range_zero, one_mul]
  rfl

theorem v117_apply (p : Fin 16) (i : Fin 196) (l : Fin 128) :
    (res_main_v117 V0 (ix3 p i l) : EReal)
      = ((∏ k ∈ Finset.range 14, if i.val / 14 = k ∨ k = i.val % 14 then 1 else
          corr (start a b p (k * 14 + i % 14)) (start a b p (k * 14 + i / 14)) l : ℝ) : EReal) := by
  pointwise [res_main_v117]
  simp only [v75_apply H, ← EReal.coe_mul]
  congr 1
  simp only [Finset.prod_range_succ, Finset.prod_range_zero, one_mul]
  rfl

theorem v167_apply (h : ∀ (p : Fin 16) (i : Fin 196), ∑ l : Fin 128, ∏ k ∈ Finset.range 14,
      corr (start a b p (k * 14 + i % 14)) (start a b p (k * 14 + i / 14)) l ≠ 0)
    (p : Fin 16) (i : Fin 196) (l : Fin 128) :
    (res_main_v167 V0 (ix3 p i l) : EReal)
      = (nrm (fun l => ∏ k ∈ Finset.range 14,
        corr (start a b p (k * 14 + i % 14)) (start a b p (k * 14 + i / 14)) l) l : EReal) := by
  pointwise [res_main_v167]
  simp only [v163_apply H, coe_sum]
  rw [div_real _ _ (h p i)]
  rfl

omit H

variable (V0) in
theorem call5_v5_apply (s : Fin 28) : (res_main_call5_v5 V0 (ix2 s 0) : BitVec 32) = pairWord s := by
  pointwise [res_main_call5_v5, res_main_v168, res_main_c_0]
  rw [same_words]
  exact (pairWord_ok s).1

variable (V0) in
theorem v184_eq : res_main_v184 V0 = res_main_v167 V0 := by
  refine scatter_rows _ _ _ fun p s l i hi => ?_
  pointwise [res_main_v176, res_main_c_0] at hi
  rw [same_words] at hi
  replace hi : (pairWord s).toInt = i.val :=
    (congrArg BitVec.toInt (pairWord_ok s).1).symm.trans hi
  pointwise
  rw [fold_ones _ _ fun x => ?_]
  · refine (if_pos rfl : Scalar.select (1#1) _ _ = _).trans ?_
    rw [gather_rows]
    exact pair_read _ p s l i _ (call5_v5_apply V0 s) hi
  · idx_vars x
    obtain rfl : x1 = 0 := Subsingleton.elim _ _
    rw [call5_v5_apply, (pairWord_ok x0).2.1, (pairWord_ok x0).2.2.1]
    rfl

end Cert.Proof.Ref
-- ==== Proof.Equation.lean ====
module
public import proofs.«01_k».proof.Proof.Model

/-! # The equation: what the kernel's rows and the reference's products have in common -/

@[expose] public section
noncomputable section
namespace Cert.Proof

variable {a b : ℕ → ℕ → Fin 128 → ℝ}

/-- The product over the places that are on neither end of the pair. -/
def inner (a b : ℕ → ℕ → Fin 128 → ℝ) (p i : ℕ) (l : Fin 128) : ℝ :=
  ∏ k ∈ Finset.range 14, if i / 14 = k ∨ k = i % 14 then 1 else
    corr (start a b p (k * 14 + i % 14)) (start a b p (k * 14 + i / 14)) l

/-- The product over every place. -/
def whole (a b : ℕ → ℕ → Fin 128 → ℝ) (p i : ℕ) (l : Fin 128) : ℝ :=
  ∏ k ∈ Finset.range 14, corr (start a b p (k * 14 + i % 14)) (start a b p (k * 14 + i / 14)) l

/-- A lane with its sign reversed. -/
def opp (l : Fin 128) : Fin 128 := ⟨(128 - l.val) % 128, Nat.mod_lt _ (by norm_num)⟩

theorem through_rows (t p i : ℕ) (hp : p < 2) (hi : i < 196) (l : Fin 128) :
    through (rows a b t) (p * 196 + i) l = inner a b (2 * t + p) i l := by
  unfold through inner
  refine Finset.prod_congr rfl fun k hk => ?_
  have hk' : k < 14 := Finset.mem_range.1 hk
  have e1 : (p * 196 + i) / 196 = p := by omega
  have e2 : (p * 196 + i) / 14 % 14 = i / 14 := by omega
  have e3 : (p * 196 + i) % 14 = i % 14 := by omega
  rw [e1, e2, e3]
  have s1 : (i / 14 * 16 + i % 14) / 16 = i / 14 := by omega
  have s2 : (i / 14 * 16 + i % 14) % 16 = i % 14 := by omega
  have s3 : (p * 14 + k) % 14 = k := by omega
  unfold entry rows
  rw [s1, s2, s3]
  have r1 : ((p * 14 + k) * 14 + i % 14) / 196 = p := by omega
  have r2 : ((p * 14 + k) * 14 + i % 14) % 196 = k * 14 + i % 14 := by omega
  have r3 : ((p * 14 + k) * 14 + i / 14) / 196 = p := by omega
  have r4 : ((p * 14 + k) * 14 + i / 14) % 196 = k * 14 + i / 14 := by omega
  rw [r1, r2, r3, r4]
  have c1 : (((i / 14 = k ∨ i % 14 = k) ∨ 14 ≤ i / 14) ∨ 14 ≤ i % 14) ↔ (i / 14 = k ∨ k = i % 14) := by
    omega
  by_cases h : i / 14 = k ∨ k = i % 14
  · rw [if_pos h, if_pos (c1.2 h)]
  · rw [if_neg h, if_neg fun h' => h (c1.1 h')]

theorem back_rows (t p i : ℕ) (hp : p < 2) (hi : i < 196) (l : Fin 128) :
    back (rows a b t) (p * 196 + i) l = start a b (2 * t + p) (i % 14 * 14 + i / 14) (opp l) := by
  have e1 : (p * 196 + i) / 196 = p := by omega
  have e2 : (p * 196 + i) / 14 % 14 = i / 14 := by omega
  have e3 : (p * 196 + i) % 14 = i % 14 := by omega
  unfold back rows
  rw [e1, e2, e3]
  have r1 : (p * 196 + i % 14 * 14 + i / 14) / 196 = p := by omega
  have r2 : (p * 196 + i % 14 * 14 + i / 14) % 196 = i % 14 * 14 + i / 14 := by omega
  rw [r1, r2]
  rfl

/-- The second result's row in terms of the batch entry alone. -/
def outer (a b : ℕ → ℕ → Fin 128 → ℝ) (p i : ℕ) (l : Fin 128) : ℝ :=
  if i % 15 = 0 then pulse l else
    inner a b p i l * start a b p i l * start a b p (i % 14 * 14 + i / 14) (opp l)

theorem urow_rows (t p i : ℕ) (hp : p < 2) (hi : i < 196) (l : Fin 128) :
    urow (rows a b t) (through (rows a b t)) (p * 196 + i) i l = outer a b (2 * t + p) i l := by
  unfold urow outer
  rw [through_rows t p i hp hi, back_rows t p i hp hi]
  unfold rows
  have e1 : (p * 196 + i) / 196 = p := by omega
  have e2 : (p * 196 + i) % 196 = i := by omega
  rw [e1, e2]

theorem corr_pulse_right (u : Fin 128 → ℝ) (l : Fin 128) : corr u pulse l = u l := by
  unfold corr
  rw [Finset.sum_eq_single (0 : Fin 128)]
  · have e : (⟨((0 : Fin 128).val + l.val) % 128, Nat.mod_lt _ (by norm_num)⟩ : Fin 128) = l :=
      Fin.ext (by show (0 + l.val) % 128 = l.val; omega)
    rw [e]
    show u l * 1 = u l
    rw [mul_one]
  · intro n _ h
    have : pulse n = 0 := if_neg fun h' => h (Fin.ext h')
    rw [this, mul_zero]
  · intro h
    exact absurd (Finset.mem_univ _) h

theorem corr_pulse_left (v : Fin 128 → ℝ) (l : Fin 128) : corr pulse v l = v (opp l) := by
  unfold corr
  rw [Finset.sum_eq_single (opp l)]
  · have : pulse ⟨((opp l).val + l.val) % 128, Nat.mod_lt _ (by norm_num)⟩ = 1 :=
      if_pos (by show ((128 - l.val) % 128 + l.val) % 128 = 0; omega)
    rw [this, one_mul]
  · intro n _ h
    have : pulse ⟨(n.val + l.val) % 128, Nat.mod_lt _ (by norm_num)⟩ = 0 :=
      if_neg fun h' => h (Fin.ext (by
        have h'' : (n.val + l.val) % 128 = 0 := h'
        show n.val = (128 - l.val) % 128
        omega))
    rw [this, zero_mul]
  · intro h
    exact absurd (Finset.mem_univ _) h

theorem corr_pos (u v : Fin 128 → ℝ) (hu : ∀ l, 0 < u l) (hv : ∀ l, 0 < v l) (l : Fin 128) :
    0 < corr u v l :=
  sum_pos128 _ fun n => mul_pos (hu _) (hv n)

section
variable (ha : ∀ p i l, 0 < a p i l) (hb : ∀ p i l, 0 < b p i l)
include ha hb

theorem corr_start_pos (p i k : ℕ) (hi : i < 196) (hk : k < 14) (h1 : i / 14 ≠ k) (h2 : k ≠ i % 14)
    (l : Fin 128) :
    0 < corr (start a b p (k * 14 + i % 14)) (start a b p (k * 14 + i / 14)) l :=
  corr_pos _ _ (start_pos ha hb p _ (by omega)) (start_pos ha hb p _ (by omega)) l

theorem inner_pos (p i : ℕ) (hi : i < 196) (l : Fin 128) : 0 < inner a b p i l := by
  refine Finset.prod_pos fun k hk => ?_
  have hk' : k < 14 := Finset.mem_range.1 hk
  by_cases h : i / 14 = k ∨ k = i % 14
  · rw [if_pos h]
    norm_num
  · rw [if_neg h]
    exact corr_start_pos ha hb p i k hi hk' (fun h1 => h (Or.inl h1)) (fun h2 => h (Or.inr h2)) l

theorem sum_outer_pos (p i : ℕ) (hi : i < 196) : 0 < ∑ l, outer a b p i l := by
  unfold outer
  by_cases h : i % 15 = 0
  · simp only [if_pos h, sum_pulse]
    norm_num
  · simp only [if_neg h]
    exact sum_pos128 _ fun l => mul_pos (mul_pos (inner_pos ha hb p i hi l) (start_pos ha hb p i h l))
      (start_pos ha hb p _ (by omega) _)

omit ha hb in
/-- Off the diagonal the two places on the ends of the pair contribute the two factors that the
kernel multiplies in afterwards. -/
theorem whole_off (p i : ℕ) (hi : i < 196) (h : ¬ i % 15 = 0) (l : Fin 128) :
    whole a b p i l
      = inner a b p i l * start a b p i l * start a b p (i % 14 * 14 + i / 14) (opp l) := by
  have key : ∀ k ∈ Finset.range 14,
      corr (start a b p (k * 14 + i % 14)) (start a b p (k * 14 + i / 14)) l
        = (if i / 14 = k ∨ k = i % 14 then 1 else
            corr (start a b p (k * 14 + i % 14)) (start a b p (k * 14 + i / 14)) l)
          * (if i / 14 = k then start a b p i l else 1)
          * (if i % 14 = k then start a b p (i % 14 * 14 + i / 14) (opp l) else 1) := by
    intro k hk
    have hk' : k < 14 := Finset.mem_range.1 hk
    by_cases h1 : i / 14 = k
    · have h2 : ¬ i % 14 = k := by omega
      rw [if_pos (Or.inl h1), if_pos h1, if_neg h2, one_mul, mul_one]
      subst h1
      rw [start_diag p (i / 14 * 14 + i / 14) (by omega), corr_pulse_right]
      have e : i / 14 * 14 + i % 14 = i := by omega
      rw [e]
    · by_cases h2 : i % 14 = k
      · rw [if_pos (Or.inr h2.symm), if_neg h1, if_pos h2, one_mul, one_mul]
        subst h2
        rw [start_diag p (i % 14 * 14 + i % 14) (by omega), corr_pulse_left]
      · rw [if_neg (by omega), if_neg h1, if_neg h2, mul_one, mul_one]
  unfold whole inner
  rw [Finset.prod_congr rfl key, Finset.prod_mul_distrib, Finset.prod_mul_distrib,
    Finset.prod_ite_eq, Finset.prod_ite_eq, if_pos (Finset.mem_range.2 (by omega)),
    if_pos (Finset.mem_range.2 (by omega))]

/-- On the diagonal every lane but lane 0 is zero. -/
theorem whole_diag (p i : ℕ) (hi : i < 196) (h : i % 15 = 0) :
    ∃ s : ℝ, 0 < s ∧ whole a b p i = fun l => s * pulse l := by
  have hq : i / 14 = i % 14 := by omega
  have hw : ∀ l, whole a b p i l = inner a b p i l * pulse l := by
    intro l
    have key : ∀ k ∈ Finset.range 14,
        corr (start a b p (k * 14 + i % 14)) (start a b p (k * 14 + i / 14)) l
          = (if i / 14 = k ∨ k = i % 14 then 1 else
              corr (start a b p (k * 14 + i % 14)) (start a b p (k * 14 + i / 14)) l)
            * (if i / 14 = k then pulse l else 1) := by
      intro k hk
      have hk' : k < 14 := Finset.mem_range.1 hk
      by_cases h1 : i / 14 = k
      · rw [if_pos (Or.inl h1), if_pos h1, one_mul, ← hq]
        subst h1
        rw [start_diag p (i / 14 * 14 + i / 14) (by omega), corr_pulse_right]
      · rw [if_neg (by omega), if_neg h1, mul_one]
    unfold whole inner
    rw [Finset.prod_congr rfl key, Finset.prod_mul_distrib, Finset.prod_ite_eq,
      if_pos (Finset.mem_range.2 (by omega))]
  refine ⟨inner a b p i 0, inner_pos ha hb p i hi 0, funext fun l => ?_⟩
  rw [hw]
  unfold pulse
  by_cases hl : l.val = 0
  · have : l = 0 := Fin.ext hl
    rw [this]
  · rw [if_neg hl, mul_zero, mul_zero]

/-- The product over every place is the kernel's row, up to a factor that normalising removes. -/
theorem whole_eq (p i : ℕ) (hi : i < 196) :
    ∃ s : ℝ, 0 < s ∧ whole a b p i = fun l => s * outer a b p i l := by
  by_cases h : i % 15 = 0
  · obtain ⟨s, hs, e⟩ := whole_diag ha hb p i hi h
    refine ⟨s, hs, ?_⟩
    rw [e]
    funext l
    unfold outer
    rw [if_pos h]
  · refine ⟨1, one_pos, funext fun l => ?_⟩
    rw [whole_off p i hi h l]
    unfold outer
    rw [if_neg h, one_mul]

theorem sum_whole_ne (p i : ℕ) (hi : i < 196) : ∑ l, whole a b p i l ≠ 0 := by
  obtain ⟨s, hs, e⟩ := whole_eq ha hb p i hi
  rw [e, ← Finset.mul_sum]
  exact (mul_pos hs (sum_outer_pos ha hb p i hi)).ne'

theorem nrm_whole (p i : ℕ) (hi : i < 196) : nrm (whole a b p i) = nrm (outer a b p i) := by
  obtain ⟨s, hs, e⟩ := whole_eq ha hb p i hi
  rw [e, nrm_scale s hs.ne']

end

end Cert.Proof
-- ==== Proof.RefResults.lean ====
module
public import proofs.«01_k».proof.Proof.RefCorr
public import proofs.«01_k».proof.Proof.Equation

/-! # The reference's two results, entry by entry -/

@[expose] public section
set_option maxRecDepth 16384
noncomputable section
namespace Cert.Proof.Ref
open Idealize.ShloMosaic Idealize.ShloMosaic.TcCoe Idealize.SL.Sem Cert.ReferenceIdeal Cert.ReferenceIdeal.Gen Cert.ReferenceIdeal.Value

/-- An array divided by its sums over the lanes. -/
def divided (x : FVec Ideal S16x196x128 .f32) : FVec Ideal S16x196x128 .f32 :=
  Host.divf x (broadcastInDim S16x196x128 ![0, 1, 2] bcast_S16x196x1_S16x196x128_0_1_2 (broadcastInDim S16x196x1 ![0, 1] bcast_S16x196_S16x196x1_0_1 (Host.reduceAdd x (constant S_ .f32 0x00000000#32) reducesTo_S16x196x128_S16x196_d2 h_S_)))

theorem divided_apply (x : FVec Ideal S16x196x128 .f32) (f : ℕ → ℕ → Fin 128 → ℝ)
    (hx : ∀ (p : Fin 16) (i : Fin 196) (l : Fin 128), (x (ix3 p i l) : EReal) = (f p i l : EReal))
    (hf : ∀ (p : Fin 16) (i : Fin 196), ∑ l, f p i l ≠ 0) (p : Fin 16) (i : Fin 196) (l : Fin 128) :
    (divided x (ix3 p i l) : EReal) = (nrm (f p i) l : EReal) := by
  pointwise [divided]
  simp only [hx, coe_sum]
  rw [div_real _ _ (hf p i)]
  rfl

variable {V0 : Valuation τ sig (Elt Ideal)} {a b : ℕ → ℕ → Fin 128 → ℝ} (H : Args V0 a b)
include H

theorem v121_apply (p : Fin 16) (i : Fin 196) (l : Fin 128) :
    (divided (res_main_v117 V0) (ix3 p i l) : EReal) = (nrm (inner a b p i) l : EReal) :=
  divided_apply _ (inner a b) (v117_apply H)
    (fun p i => (sum_pos128 _ (inner_pos H.fst_pos H.snd_pos p i i.isLt)).ne') p i l

theorem v188_apply (p : Fin 16) (i : Fin 196) (l : Fin 128) :
    (divided (res_main_v184 V0) (ix3 p i l) : EReal) = (nrm (outer a b p i) l : EReal) := by
  have hw : ∀ (p : Fin 16) (i : Fin 196), ∑ l, whole a b p i l ≠ 0 := fun p i =>
    sum_whole_ne H.fst_pos H.snd_pos p i i.isLt
  rw [v184_eq]
  refine (divided_apply _ (fun p i => nrm (whole a b p i)) (v167_apply H hw) (fun p i => ?_) p i l).trans ?_
  · rw [sum_nrm _ (hw p i)]
    exact one_ne_zero
  · rw [nrm_nrm _ (hw p i), nrm_whole H.fst_pos H.snd_pos p i i.isLt]

end Cert.Proof.Ref
-- ==== Proof.Agree.lean ====
module
public import proofs.«01_k».proof.Defs
public import proofs.«01_k».proof.Proof.Gen.ReferenceIdeal.Run
public import proofs.«01_k».proof.Proof.Positive
public import proofs.«01_k».proof.Proof.Results
public import proofs.«01_k».proof.Proof.RefResults

/-! # The two programs' results agree -/

@[expose] public section
set_option maxRecDepth 16384
noncomputable section
namespace Cert.Proof
open Idealize.ShloMosaic Idealize.ShloMosaic.TcCoe Idealize.SL.Sem

variable {a b : ℕ → ℕ → Fin 128 → ℝ}

section
open Cert.KernelIdeal Cert.KernelIdeal.Gen

theorem good (m : (ℓ : Loc nD τ sig) → Buf (Elt Ideal) ℓ) (c : Dev nD)
    (ha : ∀ p i l, 0 < a p i l) (hb : ∀ p i l, 0 < b p i l)
    (h1 : ∀ (p : Fin 16) (i : Fin 196) (l : Fin 128),
      (m ((c : Thread nD τ).loc main_arg0) (ix3 p i l) : EReal) = (a p i l : EReal))
    (h2 : ∀ (p : Fin 16) (i : Fin 196) (l : Fin 128),
      (m ((c : Thread nD τ).loc main_arg1) (ix3 p i l) : EReal) = (b p i l : EReal)) :
    Good m c a b where
  fst := h1
  snd := h2
  start_ne := fun p i => (sum_zrow_pos ha hb p i).ne'
  through_ne := fun t r hr => by
    have e : r = r / 196 * 196 + r % 196 := by omega
    rw [e]
    simp only [through_rows t (r / 196) (r % 196) (by omega) (by omega)]
    exact (sum_pos128 _ (inner_pos ha hb _ _ (by omega))).ne'
  urow_ne := fun t p i hp hi => by
    simp only [urow_rows t p i hp hi]
    exact (sum_outer_pos ha hb _ _ hi).ne'

/-- The kernel ends with its two result arrays at what its grid points wrote and its arguments unchanged. -/
theorem kernel_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v148_0) = (dats m 0 c).arrAt 9 cfg0.N
      ∧ r.2.mem ((c : Thread nD τ).loc main_v148_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 9, (h.1 c).1 10, h.2 c⟩)
    (θ_run_and (run_main m g) (unchanged m g))

end

theorem array10_apply (p : Fin 16) (i : Fin 196) (l : Fin 128) :
    array10 a b (ix3 p i l) = (nrm (inner a b p i) l : EReal) := by
  show (value10 a b p i l : EReal) = _
  unfold value10
  have e : through (rows a b (p.val / 2)) (p.val % 2 * 196 + i.val) = inner a b p i := by
    funext l
    rw [through_rows _ _ _ (by omega) i.isLt]
    congr 1
    omega
  rw [e]

theorem array9_apply (p : Fin 16) (i : Fin 196) (l : Fin 128) :
    array9 a b (ix3 p i l) = (nrm (outer a b p i) l : EReal) := by
  show (value9 a b p i l : EReal) = _
  unfold value9
  have e : urow (rows a b (p.val / 2)) (through (rows a b (p.val / 2))) (p.val % 2 * 196 + i.val) i.val
      = outer a b p i := by
    funext l
    rw [urow_rows _ _ _ (by omega) i.isLt]
    congr 1
    omega
  rw [e]

section
open Cert.ReferenceIdeal Cert.ReferenceIdeal.Gen Cert.ReferenceIdeal.Value

variable {V0 : Valuation τ sig (Elt Ideal)}

theorem ref10 (H : Ref.Args V0 a b) : Ref.divided (res_main_v117 V0) = array10 a b := by
  funext y
  rw [eq_ix3 (n0 := 16) (n1 := 196) (n2 := 128) y]
  exact (Ref.v121_apply H _ _ _).trans (array10_apply _ _ _).symm

theorem ref9 (H : Ref.Args V0 a b) : Ref.divided (res_main_v184 V0) = array9 a b := by
  funext y
  rw [eq_ix3 (n0 := 16) (n1 := 196) (n2 := 128) y]
  exact (Ref.v188_apply H _ _ _).trans (array9_apply _ _ _).symm

end

theorem algebraic : Cert.algebraic_KernelIdeal_ReferenceIdeal_pre_positive := by
  intro m g m' g' hpre hargs
  let x := fun c : Dev Cert.KernelIdeal.nD =>
    m ((c.tc : Thread Cert.KernelIdeal.nD Cert.KernelIdeal.τ).loc Cert.KernelIdeal.main_arg0)
  let y := fun c : Dev Cert.KernelIdeal.nD =>
    m ((c.tc : Thread Cert.KernelIdeal.nD Cert.KernelIdeal.τ).loc Cert.KernelIdeal.main_arg1)
  have hx := fun c i => (entries (x c) (y c) (hpre c) i).1
  have hy := fun c i => (entries (x c) (y c) (hpre c) i).2
  have hgood := fun c => good (a := number (x c)) (b := number (y c)) m c
    (number_pos (x c) (hx c)) (number_pos (y c) (hy c))
    (number_apply (x c) (hx c)) (number_apply (y c) (hy c))
  have hargs' : ∀ c : Dev Cert.ReferenceIdeal.nD,
      Ref.Args (StableHlo.launchContents m' c) (number (x c)) (number (y c)) := fun c =>
    { fst := fun p i l => (congrFun (hargs c).1 (ix3 p i l)).trans (number_apply (x c) (hx c) p i l)
      snd := fun p i l => (congrFun (hargs c).2 (ix3 p i l)).trans (number_apply (y c) (hy c) p i l)
      fst_pos := number_pos (x c) (hx c)
      snd_pos := number_pos (y c) (hy c) }
  refine ⟨fun c => array9 (number (x c)) (number (y c)), fun c => array10 (number (x c)) (number (y c)), ?_, ?_⟩
  · exact (θ_run Cert.KernelIdeal.defs _ _).mono
      (fun r h c => ⟨(h c).1.trans (final9 m c (hgood c)), (h c).2.1.trans (final10 m c (hgood c)),
        (h c).2.2⟩)
      (kernel_run m g)
  · exact (θ_run Cert.ReferenceIdeal.defs _ _).mono
      (fun r h c => ⟨(h c).1.trans (ref9 (hargs' c)), (h c).2.1.trans (ref10 (hargs' c)), (h c).2.2⟩)
      (Cert.ReferenceIdeal.Value.run m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_positive
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_positive.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
